-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))
      ∧ r.2.sem = fun _ => 0)

def preserves_Kernel_KernelIdeal : Prop :=
  IdealRules.named_const.Statement Cert.KernelIdeal.κ "mask" .f32 0xFF61B1E6#32 ⊥

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v135) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S8x1024x512 : Shape := ⟨3, ![8, 1024, 512]⟩
abbrev S1x512x16 : Shape := ⟨3, ![1, 512, 16]⟩
abbrev S16x16 : Shape := ⟨2, ![16, 16]⟩
abbrev S16 : Shape := ⟨1, ![16]⟩
abbrev S1x512 : Shape := ⟨2, ![1, 512]⟩
abbrev S1 : Shape := ⟨1, ![1]⟩
abbrev S64x512 : Shape := ⟨2, ![64, 512]⟩
abbrev S64 : Shape := ⟨1, ![64]⟩
abbrev S64x64 : Shape := ⟨2, ![64, 64]⟩
abbrev S512x64 : Shape := ⟨2, ![512, 64]⟩
abbrev S512 : Shape := ⟨1, ![512]⟩
abbrev S512x1024 : Shape := ⟨2, ![512, 1024]⟩
abbrev S512x512 : Shape := ⟨2, ![512, 512]⟩
abbrev S_ : Shape := ⟨0, ![]⟩

class Facts : Prop where
  bcast_S_S8x1024x512 : S_.BroadcastsInDim S8x1024x512 (![] : Fin 0 → Fin S8x1024x512.rank)
  reducesTo_S8x1024x512_S_d0_1_2 : S8x1024x512.ReducesTo [0, 1, 2] S_
  h_S_ : 0 < S_.numel
  bcast_S_S1x512x16 : S_.BroadcastsInDim S1x512x16 (![] : Fin 0 → Fin S1x512x16.rank)
  reducesTo_S1x512x16_S_d0_1_2 : S1x512x16.ReducesTo [0, 1, 2] S_
  bcast_S_S16x16 : S_.BroadcastsInDim S16x16 (![] : Fin 0 → Fin S16x16.rank)
  reducesTo_S16x16_S_d0_1 : S16x16.ReducesTo [0, 1] S_
  bcast_S_S16 : S_.BroadcastsInDim S16 (![] : Fin 0 → Fin S16.rank)
  reducesTo_S16_S_d0 : S16.ReducesTo [0] S_
  bcast_S_S1x512 : S_.BroadcastsInDim S1x512 (![] : Fin 0 → Fin S1x512.rank)
  reducesTo_S1x512_S_d0_1 : S1x512.ReducesTo [0, 1] S_
  bcast_S_S1 : S_.BroadcastsInDim S1 (![] : Fin 0 → Fin S1.rank)
  reducesTo_S1_S_d0 : S1.ReducesTo [0] S_
  bcast_S_S64x512 : S_.BroadcastsInDim S64x512 (![] : Fin 0 → Fin S64x512.rank)
  reducesTo_S64x512_S_d0_1 : S64x512.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S512x64 : S_.BroadcastsInDim S512x64 (![] : Fin 0 → Fin S512x64.rank)
  reducesTo_S512x64_S_d0_1 : S512x64.ReducesTo [0, 1] S_
  bcast_S_S512 : S_.BroadcastsInDim S512 (![] : Fin 0 → Fin S512.rank)
  reducesTo_S512_S_d0 : S512.ReducesTo [0] S_
  bcast_S_S512x1024 : S_.BroadcastsInDim S512x1024 (![] : Fin 0 → Fin S512x1024.rank)
  reducesTo_S512x1024_S_d0_1 : S512x1024.ReducesTo [0, 1] S_

variable [Facts]

def fn_part4 {F : FTy → Type} [FloatOps F] (main_arg14 : FVec F S512x1024 .f32) (main_v63 : IVec S_ 1) (main_v67 : IVec S_ 1) : IVec S_ 1 :=
  let main_v68 : IVec S_ 1 := andi main_v63 main_v67
  let main_v69 : FVec F S512x1024 .f32 := Host.absf main_arg14
  let main_cst_26 : FVec F S_ .f32 := constant S_ .f32 0x7F800000#32
  let main_v70 : FVec F S512x1024 .f32 := broadcastInDim S512x1024 ![] bcast_S_S512x1024 main_cst_26
  let main_v71 : IVec S512x1024 1 := cmpf .olt main_v69 main_v70
  let main_c_27 : IVec S_ 1 := constantI S_ 1 1#1
  let main_v72 : IVec S_ 1 := (fun x v => Host.reduce IntOp.andi x v reducesTo_S512x1024_S_d0_1 h_S_) main_v71 main_c_27
  let main_v73 : IVec S_ 1 := andi main_v68 main_v72
  main_v73

def fn_part3 {F : FTy → Type} [FloatOps F] (main_arg11 : FVec F S64 .f32) (main_arg12 : FVec F S512x64 .f32) (main_arg13 : FVec F S512 .f32) (main_arg14 : FVec F S512x1024 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64 .f32 := Host.absf main_arg11
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S512x64 .f32 := Host.absf main_arg12
  let main_cst_22 : FVec F S_ .f32 := constant S_ .f32 0x7F800000#32
  let main_v60 : FVec F S512x64 .f32 := broadcastInDim S512x64 ![] bcast_S_S512x64 main_cst_22
  let main_v61 : IVec S512x64 1 := cmpf .olt main_v59 main_v60
  let main_c_23 : IVec S_ 1 := constantI S_ 1 1#1
  let main_v62 : IVec S_ 1 := (fun x v => Host.reduce IntOp.andi x v reducesTo_S512x64_S_d0_1 h_S_) main_v61 main_c_23
  let main_v63 : IVec S_ 1 := andi main_v58 main_v62
  let main_v64 : FVec F S512 .f32 := Host.absf main_arg13
  let main_cst_24 : FVec F S_ .f32 := constant S_ .f32 0x7F800000#32
  let main_v65 : FVec F S512 .f32 := broadcastInDim S512 ![] bcast_S_S512 main_cst_24
  let main_v66 : IVec S512 1 := cmpf .olt main_v64 main_v65
  let main_c_25 : IVec S_ 1 := constantI S_ 1 1#1
  let main_v67 : IVec S_ 1 := (fun x v => Host.reduce IntOp.andi x v reducesTo_S512_S_d0 h_S_) main_v66 main_c_25
  fn_part4 (F := F) main_arg14 main_v63 main_v67

def fn_part2 {F : FTy → Type} [FloatOps F] (main_arg7 : FVec F S1 .f32) (main_arg8 : FVec F S64x512 .f32) (main_arg9 : FVec F S64 .f32) (main_arg10 : FVec F S64x64 .f32) (main_arg11 : FVec F S64 .f32) (main_arg12 : FVec F S512x64 .f32) (main_arg13 : FVec F S512 .f32) (main_arg14 : FVec F S512x1024 .f32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  let main_v39 : FVec F S64x512 .f32 := Host.absf main_arg8
  let main_cst_14 : FVec F S_ .f32 := constant S_ .f32 0x7F800000#32
  let main_v40 : FVec F S64x512 .f32 := broadcastInDim S64x512 ![] bcast_S_S64x512 main_cst_14
  let main_v41 : IVec S64x512 1 := cmpf .olt main_v39 main_v40
  let main_c_15 : IVec S_ 1 := constantI S_ 1 1#1
  let main_v42 : IVec S_ 1 := (fun x v => Host.reduce IntOp.andi x v reducesTo_S64x512_S_d0_1 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x64 .f32 := Host.absf main_arg10
  let main_cst_18 : FVec F S_ .f32 := constant S_ .f32 0x7F800000#32
  let main_v50 : FVec F S64x64 .f32 := broadcastInDim S64x64 ![] bcast_S_S64x64 main_cst_18
  fn_part3 (F := F) main_arg11 main_arg12 main_arg13 main_arg14 main_v48 main_v49 main_v50

def fn_part1 {F : FTy → Type} [FloatOps F] (main_arg4 : FVec F S16x16 .f32) (main_arg5 : FVec F S16 .f32) (main_arg6 : FVec F S1x512 .f32) (main_arg7 : FVec F S1 .f32) (main_arg8 : FVec F S64x512 .f32) (main_arg9 : FVec F S64 .f32) (main_arg10 : FVec F S64x64 .f32) (main_arg11 : FVec F S64 .f32) (main_arg12 : FVec F S512x64 .f32) (main_arg13 : FVec F S512 .f32) (main_arg14 : FVec F S512x1024 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16x16 .f32 := Host.absf main_arg4
  let main_cst_6 : FVec F S_ .f32 := constant S_ .f32 0x7F800000#32
  let main_v20 : FVec F S16x16 .f32 := broadcastInDim S16x16 ![] bcast_S_S16x16 main_cst_6
  let main_v21 : IVec S16x16 1 := cmpf .olt main_v19 main_v20
  let main_c_7 : IVec S_ 1 := constantI S_ 1 1#1
  let main_v22 : IVec S_ 1 := (fun x v => Host.reduce IntOp.andi x v reducesTo_S16x16_S_d0_1 h_S_) main_v21 main_c_7
  let main_v23 : IVec S_ 1 := andi main_v18 main_v22
  let main_v24 : FVec F S16 .f32 := Host.absf main_arg5
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  let main_v29 : FVec F S1x512 .f32 := Host.absf main_arg6
  let main_cst_10 : FVec F S_ .f32 := constant S_ .f32 0x7F800000#32
  let main_v30 : FVec F S1x512 .f32 := broadcastInDim S1x512 ![] bcast_S_S1x512 main_cst_10
  let main_v31 : IVec S1x512 1 := cmpf .olt main_v29 main_v30
  let main_c_11 : IVec S_ 1 := constantI S_ 1 1#1
  let main_v32 : IVec S_ 1 := (fun x v => Host.reduce IntOp.andi x v reducesTo_S1x512_S_d0_1 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S8x1024x512 .f32) (main_arg1 : FVec F S1x512x16 .f32) (main_arg2 : FVec F S16x16 .f32) (main_arg3 : FVec F S16 .f32) (main_arg4 : FVec F S16x16 .f32) (main_arg5 : FVec F S16 .f32) (main_arg6 : FVec F S1x512 .f32) (main_arg7 : FVec F S1 .f32) (main_arg8 : FVec F S64x512 .f32) (main_arg9 : FVec F S64 .f32) (main_arg10 : FVec F S64x64 .f32) (main_arg11 : FVec F S64 .f32) (main_arg12 : FVec F S512x64 .f32) (main_arg13 : FVec F S512 .f32) (main_arg14 : FVec F S512x1024 .f32) (main_arg15 : FVec F S512 .f32) (main_arg16 : FVec F S512x512 .f32) (main_arg17 : FVec F S512 .f32) (main_arg18 : FVec F S512 .f32) (main_arg19 : FVec F S512 .f32) : IVec S_ 1 :=
  let main_v0 : FVec F S8x1024x512 .f32 := Host.absf main_arg0
  let main_cst : FVec F S_ .f32 := constant S_ .f32 0x7F800000#32
  let main_v1 : FVec F S8x1024x512 .f32 := broadcastInDim S8x1024x512 ![] bcast_S_S8x1024x512 main_cst
  let main_v2 : IVec S8x1024x512 1 := cmpf .olt main_v0 main_v1
  let main_c : IVec S_ 1 := constantI S_ 1 1#1
  let main_v3 : IVec S_ 1 := (fun x v => Host.reduce IntOp.andi x v reducesTo_S8x1024x512_S_d0_1_2 h_S_) main_v2 main_c
  let main_v4 : FVec F S1x512x16 .f32 := Host.absf main_arg1
  let main_cst_0 : FVec F S_ .f32 := constant S_ .f32 0x7F800000#32
  let main_v5 : FVec F S1x512x16 .f32 := broadcastInDim S1x512x16 ![] bcast_S_S1x512x16 main_cst_0
  let main_v6 : IVec S1x512x16 1 := cmpf .olt main_v4 main_v5
  let main_c_1 : IVec S_ 1 := constantI S_ 1 1#1
  let main_v7 : IVec S_ 1 := (fun x v => Host.reduce IntOp.andi x v reducesTo_S1x512x16_S_d0_1_2 h_S_) main_v6 main_c_1
  let main_v8 : IVec S_ 1 := andi main_v3 main_v7
  let main_v9 : FVec F S16x16 .f32 := Host.absf main_arg2
  let main_cst_2 : FVec F S_ .f32 := constant S_ .f32 0x7F800000#32
  let main_v10 : FVec F S16x16 .f32 := broadcastInDim S16x16 ![] bcast_S_S16x16 main_cst_2
  let main_v11 : IVec S16x16 1 := cmpf .olt main_v9 main_v10
  let main_c_3 : IVec S_ 1 := constantI S_ 1 1#1
  let main_v12 : IVec S_ 1 := (fun x v => Host.reduce IntOp.andi x v reducesTo_S16x16_S_d0_1 h_S_) main_v11 main_c_3
  let main_v13 : IVec S_ 1 := andi main_v8 main_v12
  let main_v14 : FVec F S16 .f32 := Host.absf main_arg3
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S8x1024x512 : Shape := ⟨3, ![8, 1024, 512]⟩
abbrev S1x512x16 : Shape := ⟨3, ![1, 512, 16]⟩
abbrev S16x16 : Shape := ⟨2, ![16, 16]⟩
abbrev S16 : Shape := ⟨1, ![16]⟩
abbrev S1x512 : Shape := ⟨2, ![1, 512]⟩
abbrev S1 : Shape := ⟨1, ![1]⟩
abbrev S64x512 : Shape := ⟨2, ![64, 512]⟩
abbrev S64 : Shape := ⟨1, ![64]⟩
abbrev S64x64 : Shape := ⟨2, ![64, 64]⟩
abbrev S512x64 : Shape := ⟨2, ![512, 64]⟩
abbrev S512 : Shape := ⟨1, ![512]⟩
abbrev S512x1024 : Shape := ⟨2, ![512, 1024]⟩
abbrev S512x512 : Shape := ⟨2, ![512, 512]⟩
abbrev S512x16 : Shape := ⟨2, ![512, 16]⟩
abbrev S1x16 : Shape := ⟨2, ![1, 16]⟩
abbrev S1x1 : Shape := ⟨2, ![1, 1]⟩
abbrev S1x64 : Shape := ⟨2, ![1, 64]⟩
abbrev S1x1024x512 : Shape := ⟨3, ![1, 1024, 512]⟩
abbrev S512x1 : Shape := ⟨2, ![512, 1]⟩
abbrev S1024x512 : Shape := ⟨2, ![1024, 512]⟩
abbrev S1x1024 : Shape := ⟨2, ![1, 1024]⟩
abbrev S1024 : Shape := ⟨1, ![1024]⟩
abbrev S1024x1 : Shape := ⟨2, ![1024, 1]⟩

abbrev nBuf : Space → Nat
  | .hbm => 35
  | .vmem => 26
  | .smem => 0
  | _ => 0

abbrev bufTy : (tb : Table) → Fin (tcTables nBuf tb) → BufTy
  | .hbm, ⟨0, _⟩ => ⟨S8x1024x512, .f32⟩
  | .hbm, ⟨1, _⟩ => ⟨S1x512x16, .f32⟩
  | .hbm, ⟨2, _⟩ => ⟨S16x16, .f32⟩
  | .hbm, ⟨3, _⟩ => ⟨S16, .f32⟩
  | .hbm, ⟨4, _⟩ => ⟨S16x16, .f32⟩
  | .hbm, ⟨5, _⟩ => ⟨S16, .f32⟩
  | .hbm, ⟨6, _⟩ => ⟨S1x512, .f32⟩
  | .hbm, ⟨7, _⟩ => ⟨S1, .f32⟩
  | .hbm, ⟨8, _⟩ => ⟨S64x512, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S512x64, .f32⟩
  | .hbm, ⟨13, _⟩ => ⟨S512, .f32⟩
  | .hbm, ⟨14, _⟩ => ⟨S512x1024, .f32⟩
  | .hbm, ⟨15, _⟩ => ⟨S512, .f32⟩
  | .hbm, ⟨16, _⟩ => ⟨S512x512, .f32⟩
  | .hbm, ⟨17, _⟩ => ⟨S512, .f32⟩
  | .hbm, ⟨18, _⟩ => ⟨S512, .f32⟩
  | .hbm, ⟨19, _⟩ => ⟨S512, .f32⟩
  | .hbm, ⟨20, _⟩ => ⟨S512x16, .f32⟩
  | .hbm, ⟨21, _⟩ => ⟨S512x512, .f32⟩
  | .hbm, ⟨22, _⟩ => ⟨S512x512, .f32⟩
  | .hbm, ⟨23, _⟩ => ⟨S512x512, .bf16⟩
  | .hbm, ⟨24, _⟩ => ⟨S1x16, .f32⟩
  | .hbm, ⟨25, _⟩ => ⟨S1x16, .f32⟩
  | .hbm, ⟨26, _⟩ => ⟨S1x1, .f32⟩
  | .hbm, ⟨27, _⟩ => ⟨S1x64, .f32⟩
  | .hbm, ⟨28, _⟩ => ⟨S1x64, .f32⟩
  | .hbm, ⟨29, _⟩ => ⟨S1x512, .f32⟩
  | .hbm, ⟨30, _⟩ => ⟨S1x512, .f32⟩
  | .hbm, ⟨31, _⟩ => ⟨S1x512, .f32⟩
  | .hbm, ⟨32, _⟩ => ⟨S1x512, .f32⟩
  | .hbm, ⟨33, _⟩ => ⟨S1x512, .f32⟩
  | .hbm, ⟨34, _⟩ => ⟨S8x1024x512, .f32⟩
  | .local _ .vmem, ⟨0, _⟩ => ⟨S1x1024x512, .f32⟩
  | .local _ .vmem, ⟨1, _⟩ => ⟨S1x1024x512, .f32⟩
  | .local _ .vmem, ⟨2, _⟩ => ⟨S512x16, .f32⟩
  | .local _ .vmem, ⟨3, _⟩ => ⟨S16x16, .f32⟩
  | .local _ .vmem, ⟨4, _⟩ => ⟨S1x16, .f32⟩
  | .local _ .vmem, ⟨5, _⟩ => ⟨S16x16, .f32⟩
  | .local _ .vmem, ⟨6, _⟩ => ⟨S1x16, .f32⟩
  | .local _ .vmem, ⟨7, _⟩ => ⟨S1x512, .f32⟩
  | .local _ .vmem, ⟨8, _⟩ => ⟨S1x1, .f32⟩
  | .local _ .vmem, ⟨9, _⟩ => ⟨S64x512, .f32⟩
  | .local _ .vmem, ⟨10, _⟩ => ⟨S1x64, .f32⟩
  | .local _ .vmem, ⟨11, _⟩ => ⟨S64x64, .f32⟩
  | .local _ .vmem, ⟨12, _⟩ => ⟨S1x64, .f32⟩
  | .local _ .vmem, ⟨13, _⟩ => ⟨S512x64, .f32⟩
  | .local _ .vmem, ⟨14, _⟩ => ⟨S1x512, .f32⟩
  | .local _ .vmem, ⟨15, _⟩ => ⟨S512x512, .f32⟩
  | .local _ .vmem, ⟨16, _⟩ => ⟨S1x512, .f32⟩
  | .local _ .vmem, ⟨17, _⟩ => ⟨S512x512, .f32⟩
  | .local _ .vmem, ⟨18, _⟩ => ⟨S512x512, .bf16⟩
  | .local _ .vmem, ⟨19, _⟩ => ⟨S1x512, .f32⟩
  | .local _ .vmem, ⟨20, _⟩ => ⟨S1x512, .f32⟩
  | .local _ .vmem, ⟨21, _⟩ => ⟨S1x512, .f32⟩
  | .local _ .vmem, ⟨22, _⟩ => ⟨S1x1024x512, .f32⟩
  | .local _ .vmem, ⟨23, _⟩ => ⟨S1x1024x512, .f32⟩
  | .local _ .vmem, ⟨24, _⟩ => ⟨S512x512, .bf16⟩
  | .local _ .vmem, ⟨25, _⟩ => ⟨S512x512, .bf16⟩
  | _, _ => ⟨S8x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_v12 : Ref sig .tc := ⟨.hbm, 32, rfl⟩
abbrev main_call0_v13 : Ref sig .tc := ⟨.hbm, 33, rfl⟩
abbrev main_v0 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg19_0 : Ref sig .tc := ⟨.vmem, 20, rfl⟩
abbrev cc0_stg20_0 : Ref sig .tc := ⟨.vmem, 21, rfl⟩
abbrev cc0_stg21_0 : Ref sig .tc := ⟨.vmem, 22, rfl⟩
abbrev cc0_stg21_1 : Ref sig .tc := ⟨.vmem, 23, rfl⟩
abbrev cc0_scratch0 : Ref sig .tc := ⟨.vmem, 24, rfl⟩
abbrev cc0_scratch1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem19_0 : DmaSem sig := 20
abbrev cc0_sem20_0 : DmaSem sig := 21
abbrev cc0_sem21_0 : DmaSem sig := 22
abbrev cc0_sem21_1 : DmaSem sig := 23

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S512x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S512x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S512x512 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x512 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 2 → Memref sig .tc .vmem S1x1024x512 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]
-- ==== KernelIdeal.lean ====
variable {F : FTy → Type} [FloatOps F] [Named F]
def κ : String → Option EReal := fun
  | "mask" => some ⊥
  | _ => none
-- ==== ReferenceIdeal.lean ====
abbrev S8x1024x512 : Shape := ⟨3, ![8, 1024, 512]⟩
abbrev S1x512x16 : Shape := ⟨3, ![1, 512, 16]⟩
abbrev S16x16 : Shape := ⟨2, ![16, 16]⟩
abbrev S16 : Shape := ⟨1, ![16]⟩
abbrev S1x512 : Shape := ⟨2, ![1, 512]⟩
abbrev S1 : Shape := ⟨1, ![1]⟩
abbrev S64x512 : Shape := ⟨2, ![64, 512]⟩
abbrev S64 : Shape := ⟨1, ![64]⟩
abbrev S64x64 : Shape := ⟨2, ![64, 64]⟩
abbrev S512x64 : Shape := ⟨2, ![512, 64]⟩
abbrev S512 : Shape := ⟨1, ![512]⟩
abbrev S512x1024 : Shape := ⟨2, ![512, 1024]⟩
abbrev S512x512 : Shape := ⟨2, ![512, 512]⟩
abbrev S8x512x16 : Shape := ⟨3, ![8, 512, 16]⟩
abbrev S1x1x16 : Shape := ⟨3, ![1, 1, 16]⟩
abbrev S8x512x512 : Shape := ⟨3, ![8, 512, 512]⟩
abbrev S_ : Shape := ⟨0, ![]⟩
abbrev S1x512x512 : Shape := ⟨3, ![1, 512, 512]⟩
abbrev S8x512x8 : Shape := ⟨3, ![8, 512, 8]⟩
abbrev S8x512 : Shape := ⟨2, ![8, 512]⟩
abbrev S8x512x1 : Shape := ⟨3, ![8, 512, 1]⟩
abbrev S8x512x1024 : Shape := ⟨3, ![8, 512, 1024]⟩
abbrev S8x512x8x1 : Shape := ⟨4, ![8, 512, 8, 1]⟩
abbrev S8x512x8x1024 : Shape := ⟨4, ![8, 512, 8, 1024]⟩
abbrev S512x1 : Shape := ⟨2, ![512, 1]⟩
abbrev S8x1024x1 : Shape := ⟨3, ![8, 1024, 1]⟩
abbrev S1x1x1 : Shape := ⟨3, ![1, 1, 1]⟩
abbrev S8x1 : Shape := ⟨2, ![8, 1]⟩
abbrev S8x1x1 : Shape := ⟨3, ![8, 1, 1]⟩
abbrev S8x64 : Shape := ⟨2, ![8, 64]⟩
abbrev S1x64 : Shape := ⟨2, ![1, 64]⟩
abbrev S8x1x512 : Shape := ⟨3, ![8, 1, 512]⟩
abbrev S8x1024x1024 : Shape := ⟨3, ![8, 1024, 1024]⟩
abbrev S1024x512 : Shape := ⟨2, ![1024, 512]⟩
abbrev S1x1x512 : Shape := ⟨3, ![1, 1, 512]⟩
abbrev S8x1024 : Shape := ⟨2, ![8, 1024]⟩

abbrev nBuf : Space → Nat
  | .hbm => 207
  | .vmem => 0
  | .smem => 0
  | _ => 0

abbrev hbmTy0_0 (i : Nat) : BufTy := match i % 128 with
  | 0 => ⟨S8x1024x512, .f32⟩
  | 1 => ⟨S1x512x16, .f32⟩
  | 2 => ⟨S16x16, .f32⟩
  | 3 => ⟨S16, .f32⟩
  | 4 => ⟨S16x16, .f32⟩
  | 5 => ⟨S16, .f32⟩
  | 6 => ⟨S1x512, .f32⟩
  | 7 => ⟨S1, .f32⟩
  | 8 => ⟨S64x512, .f32⟩
  | 9 => ⟨S64, .f32⟩
  | 10 => ⟨S64x64, .f32⟩
  | 11 => ⟨S64, .f32⟩
  | 12 => ⟨S512x64, .f32⟩
  | 13 => ⟨S512, .f32⟩
  | 14 => ⟨S512x1024, .f32⟩
  | 15 => ⟨S512, .f32⟩
  | 16 => ⟨S512x512, .f32⟩
  | 17 => ⟨S512, .f32⟩
  | 18 => ⟨S512, .f32⟩
  | 19 => ⟨S512, .f32⟩
  | 20 => ⟨S8x512x16, .f32⟩
  | 21 => ⟨S16x16, .f32⟩
  | 22 => ⟨S8x512x16, .f32⟩
  | 23 => ⟨S1x1x16, .f32⟩
  | 24 => ⟨S8x512x16, .f32⟩
  | 25 => ⟨S8x512x16, .f32⟩
  | 26 => ⟨S16x16, .f32⟩
  | 27 => ⟨S8x512x16, .f32⟩
  | 28 => ⟨S1x1x16, .f32⟩
  | 29 => ⟨S8x512x16, .f32⟩
  | 30 => ⟨S8x512x16, .f32⟩
  | 31 => ⟨S8x512x512, .f32⟩
  | 32 => ⟨S512x512, .i32⟩
  | 33 => ⟨S512x512, .i32⟩
  | 34 => ⟨S_, .i32⟩
  | 35 => ⟨S512x512, .i32⟩
  | 36 => ⟨S512x512, .i32⟩
  | 37 => ⟨S512x512, .i1⟩
  | 38 => ⟨S1x512x512, .i1⟩
  | 39 => ⟨S_, .f32⟩
  | 40 => ⟨S_, .f32⟩
  | 41 => ⟨S8x512x512, .i1⟩
  | 42 => ⟨S8x512x512, .f32⟩
  | 43 => ⟨S8x512x512, .f32⟩
  | 44 => ⟨S8x512x8, .f32⟩
  | 45 => ⟨S8x512x8, .i32⟩
  | 46 => ⟨S_, .f32⟩
  | 47 => ⟨S8x512x8, .f32⟩
  | 48 => ⟨S8x512x8, .f32⟩
  | 49 => ⟨S_, .f32⟩
  | 50 => ⟨S8x512, .f32⟩
  | 51 => ⟨S_, .f32⟩
  | 52 => ⟨S8x512, .f32⟩
  | 53 => ⟨S8x512, .f32⟩
  | 54 => ⟨S8x512x1, .f32⟩
  | 55 => ⟨S8x512x8, .f32⟩
  | 56 => ⟨S8x512x8, .f32⟩
  | 57 => ⟨S8x512x8, .f32⟩
  | 58 => ⟨S_, .f32⟩
  | 59 => ⟨S8x512, .f32⟩
  | 60 => ⟨S8x512x1, .f32⟩
  | 61 => ⟨S8x512x8, .f32⟩
  | 62 => ⟨S8x512x8, .f32⟩
  | 63 => ⟨S8x512x1024, .f32⟩
  | 64 => ⟨S_, .i32⟩
  | 65 => ⟨S8x512x8, .i32⟩
  | 66 => ⟨S8x512x8, .i1⟩
  | 67 => ⟨S_, .i32⟩
  | 68 => ⟨S8x512x8, .i32⟩
  | 69 => ⟨S8x512x8, .i32⟩
  | 70 => ⟨S8x512x8, .i32⟩
  | 71 => ⟨S8x512x8x1, .i32⟩
  | 72 => ⟨S8x512x8x1024, .f32⟩
  | 73 => ⟨S8x512x8x1, .f32⟩
  | 74 => ⟨S8x512x8x1024, .f32⟩
  | 75 => ⟨S8x512x8x1024, .f32⟩
  | 76 => ⟨S_, .f32⟩
  | 77 => ⟨S8x512x1024, .f32⟩
  | 78 => ⟨S8x1024x512, .f32⟩
  | 79 => ⟨S512x1, .f32⟩
  | 80 => ⟨S8x1024x1, .f32⟩
  | 81 => ⟨S1x1x1, .f32⟩
  | 82 => ⟨S8x1024x1, .f32⟩
  | 83 => ⟨S8x1024x1, .f32⟩
  | 84 => ⟨S_, .f32⟩
  | 85 => ⟨S8x1, .f32⟩
  | 86 => ⟨S_, .f32⟩
  | 87 => ⟨S8x1, .f32⟩
  | 88 => ⟨S8x1, .f32⟩
  | 89 => ⟨S8x1x1, .f32⟩
  | 90 => ⟨S8x1024x1, .f32⟩
  | 91 => ⟨S8x1024x1, .f32⟩
  | 92 => ⟨S8x1024x1, .f32⟩
  | 93 => ⟨S_, .f32⟩
  | 94 => ⟨S8x1, .f32⟩
  | 95 => ⟨S8x1x1, .f32⟩
  | 96 => ⟨S8x1024x1, .f32⟩
  | 97 => ⟨S8x1024x1, .f32⟩
  | 98 => ⟨S8x1024x512, .f32⟩
  | 99 => ⟨S8x1024x512, .f32⟩
  | 100 => ⟨S_, .f32⟩
  | 101 => ⟨S8x512, .f32⟩
  | 102 => ⟨S512x64, .f32⟩
  | 103 => ⟨S8x64, .f32⟩
  | 104 => ⟨S1x64, .f32⟩
  | 105 => ⟨S8x64, .f32⟩
  | 106 => ⟨S8x64, .f32⟩
  | 107 => ⟨S_, .f32⟩
  | 108 => ⟨S8x64, .f32⟩
  | 109 => ⟨S8x64, .f32⟩
  | 110 => ⟨S8x64, .f32⟩
  | 111 => ⟨S_, .f32⟩
  | 112 => ⟨S8x64, .f32⟩
  | 113 => ⟨S8x64, .f32⟩
  | 114 => ⟨S8x64, .f32⟩
  | 115 => ⟨S8x64, .f32⟩
  | 116 => ⟨S64x64, .f32⟩
  | 117 => ⟨S8x64, .f32⟩
  | 118 => ⟨S1x64, .f32⟩
  | 119 => ⟨S8x64, .f32⟩
  | 120 => ⟨S8x64, .f32⟩
  | 121 => ⟨S_, .f32⟩
  | 122 => ⟨S8x64, .f32⟩
  | 123 => ⟨S8x64, .f32⟩
  | 124 => ⟨S8x64, .f32⟩
  | 125 => ⟨S_, .f32⟩
  | 126 => ⟨S8x64, .f32⟩
  | 127 => ⟨S8x64, .f32⟩
  | _ => ⟨S8x1024x512, .f32⟩

abbrev hbmTy0_1 (i : Nat) : BufTy := match i % 128 with
  | 0 => ⟨S8x64, .f32⟩
  | 1 => ⟨S8x64, .f32⟩
  | 2 => ⟨S64x512, .f32⟩
  | 3 => ⟨S8x512, .f32⟩
  | 4 => ⟨S1x512, .f32⟩
  | 5 => ⟨S8x512, .f32⟩
  | 6 => ⟨S8x512, .f32⟩
  | 7 => ⟨S8x1x512, .f32⟩
  | 8 => ⟨S8x1024x512, .f32⟩
  | 9 => ⟨S8x1024x1024, .f32⟩
  | 10 => ⟨S1024x512, .f32⟩
  | 11 => ⟨S8x1024x512, .f32⟩
  | 12 => ⟨S1x1x512, .f32⟩
  | 13 => ⟨S8x1024x512, .f32⟩
  | 14 => ⟨S8x1024x512, .f32⟩
  | 15 => ⟨S8x1024x512, .f32⟩
  | 16 => ⟨S8x1024x512, .f32⟩
  | 17 => ⟨S_, .f32⟩
  | 18 => ⟨S8x1024x512, .f32⟩
  | 19 => ⟨S8x1024x512, .f32⟩
  | 20 => ⟨S_, .f32⟩
  | 21 => ⟨S8x1024x512, .f32⟩
  | 22 => ⟨S8x1024x512, .f32⟩
  | 23 => ⟨S8x1024x512, .f32⟩
  | 24 => ⟨S_, .f32⟩
  | 25 => ⟨S8x1024x512, .f32⟩
  | 26 => ⟨S8x1024x512, .f32⟩
  | 27 => ⟨S8x1024x512, .f32⟩
  | 28 => ⟨S8x1024x512, .f32⟩
  | 29 => ⟨S512x512, .f32⟩
  | 30 => ⟨S8x1024x512, .f32⟩
  | 31 => ⟨S1x1x512, .f32⟩
  | 32 => ⟨S8x1024x512, .f32⟩
  | 33 => ⟨S8x1024x512, .f32⟩
  | 34 => ⟨S8x1024x512, .f32⟩
  | 35 => ⟨S_, .f32⟩
  | 36 => ⟨S8x1024, .f32⟩
  | 37 => ⟨S8x1024x1, .f32⟩
  | 38 => ⟨S_, .f32⟩
  | 39 => ⟨S8x1024x1, .f32⟩
  | 40 => ⟨S8x1024x1, .f32⟩
  | 41 => ⟨S_, .i32⟩
  | 42 => ⟨S_, .f32⟩
  | 43 => ⟨S8x1024, .f32⟩
  | 44 => ⟨S8x1024x1, .f32⟩
  | 45 => ⟨S_, .f32⟩
  | 46 => ⟨S8x1024x1, .f32⟩
  | 47 => ⟨S8x1024x1, .f32⟩
  | 48 => ⟨S8x1024x512, .f32⟩
  | 49 => ⟨S8x1024x512, .f32⟩
  | 50 => ⟨S8x1024x512, .f32⟩
  | 51 => ⟨S_, .f32⟩
  | 52 => ⟨S_, .f32⟩
  | 53 => ⟨S_, .f32⟩
  | 54 => ⟨S_, .f32⟩
  | 55 => ⟨S8x1024, .f32⟩
  | 56 => ⟨S8x1024x1, .f32⟩
  | 57 => ⟨S8x1024x1, .f32⟩
  | 58 => ⟨S8x1024x1, .f32⟩
  | 59 => ⟨S_, .f32⟩
  | 60 => ⟨S_, .i1⟩
  | 61 => ⟨S_, .f32⟩
  | 62 => ⟨S_, .f32⟩
  | 63 => ⟨S8x1024x1, .f32⟩
  | 64 => ⟨S8x1024x1, .f32⟩
  | 65 => ⟨S8x1024x512, .f32⟩
  | 66 => ⟨S8x1024x512, .f32⟩
  | 67 => ⟨S_, .f32⟩
  | 68 => ⟨S8x1024x1, .f32⟩
  | 69 => ⟨S8x1024x1, .f32⟩
  | 70 => ⟨S8x1024x1, .f32⟩
  | 71 => ⟨S8x1024x512, .f32⟩
  | 72 => ⟨S8x1024x512, .f32⟩
  | 73 => ⟨S1x1x512, .f32⟩
  | 74 => ⟨S8x1024x512, .f32⟩
  | 75 => ⟨S8x1024x512, .f32⟩
  | 76 => ⟨S1x1x512, .f32⟩
  | 77 => ⟨S8x1024x512, .f32⟩
  | 78 => ⟨S8x1024x512, .f32⟩
  | _ => ⟨S8x1024x512, .f32⟩

abbrev hbmTy (i : Nat) : BufTy := match i / 128 with
  | 0 => hbmTy0_0 i
  | 1 => hbmTy0_1 i
  | _ => ⟨S8x1024x512, .f32⟩

abbrev bufTy : (tb : Table) → Fin (tcTables nBuf tb) → BufTy
  | .hbm, ⟨i, _⟩ => hbmTy i
  | _, _ => ⟨S8x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_c : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_v18 : Ref sig .tc := ⟨.hbm, 43, rfl⟩
abbrev main_values : Ref sig .tc := ⟨.hbm, 44, rfl⟩
abbrev main_indices : Ref sig .tc := ⟨.hbm, 45, rfl⟩
abbrev main_cst_0 : Ref sig .tc := ⟨.hbm, 46, rfl⟩
abbrev main_v19 : Ref sig .tc := ⟨.hbm, 47, rfl⟩
abbrev main_v20 : Ref sig .tc := ⟨.hbm, 48, rfl⟩
abbrev main_cst_1 : Ref sig .tc := ⟨.hbm, 49, rfl⟩
abbrev main_v21 : Ref sig .tc := ⟨.hbm, 50, rfl⟩
abbrev main_cst_2 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_cst_3 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_c_4 : Ref sig .tc := ⟨.hbm, 64, rfl⟩
abbrev main_v33 : Ref sig .tc := ⟨.hbm, 65, rfl⟩
abbrev main_v34 : Ref sig .tc := ⟨.hbm, 66, rfl⟩
abbrev main_c_5 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_cst_6 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_cst_7 : Ref sig .tc := ⟨.hbm, 84, rfl⟩
abbrev main_v50 : Ref sig .tc := ⟨.hbm, 85, rfl⟩
abbrev main_cst_8 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_cst_9 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_cst_10 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_cst_11 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_cst_12 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_cst_13 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_cst_14 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_cst_15 : Ref sig .tc := ⟨.hbm, 145, rfl⟩
abbrev main_v103 : Ref sig .tc := ⟨.hbm, 146, rfl⟩
abbrev main_v104 : Ref sig .tc := ⟨.hbm, 147, rfl⟩
abbrev main_cst_16 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_cst_17 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_cst_18 : Ref sig .tc := ⟨.hbm, 163, rfl⟩
abbrev main_v118 : Ref sig .tc := ⟨.hbm, 164, rfl⟩
abbrev main_v119 : Ref sig .tc := ⟨.hbm, 165, rfl⟩
abbrev main_cst_19 : Ref sig .tc := ⟨.hbm, 166, rfl⟩
abbrev main_v120 : Ref sig .tc := ⟨.hbm, 167, rfl⟩
abbrev main_v121 : Ref sig .tc := ⟨.hbm, 168, rfl⟩
abbrev main_c_20 : Ref sig .tc := ⟨.hbm, 169, rfl⟩
abbrev main_call1_cst : Ref sig .tc := ⟨.hbm, 170, rfl⟩
abbrev main_call1_v0 : Ref sig .tc := ⟨.hbm, 171, rfl⟩
abbrev main_call1_v1 : Ref sig .tc := ⟨.hbm, 172, rfl⟩
abbrev main_call1_cst_0 : Ref sig .tc := ⟨.hbm, 173, rfl⟩
abbrev main_call1_v2 : Ref sig .tc := ⟨.hbm, 174, rfl⟩
abbrev main_call1_v3 : Ref sig .tc := ⟨.hbm, 175, rfl⟩
abbrev main_call1_v4 : Ref sig .tc := ⟨.hbm, 176, rfl⟩
abbrev main_call1_v5 : Ref sig .tc := ⟨.hbm, 177, rfl⟩
abbrev main_call1_v6 : Ref sig .tc := ⟨.hbm, 178, rfl⟩
abbrev main_call1_v7 : Ref sig .tc := ⟨.hbm, 179, rfl⟩
abbrev main_call1_cst_1 : Ref sig .tc := ⟨.hbm, 180, rfl⟩
abbrev main_call1_v8 : Ref sig .tc := ⟨.hbm, 181, rfl⟩
abbrev main_call1_cst_2 : Ref sig .tc := ⟨.hbm, 182, rfl⟩
abbrev main_call1_v9 : Ref sig .tc := ⟨.hbm, 183, rfl⟩
abbrev main_call1_v10 : Ref sig .tc := ⟨.hbm, 184, rfl⟩
abbrev main_call1_v11 : Ref sig .tc := ⟨.hbm, 185, rfl⟩
abbrev main_call1_v12 : Ref sig .tc := ⟨.hbm, 186, rfl⟩
abbrev main_call1_cst_3 : Ref sig .tc := ⟨.hbm, 187, rfl⟩
abbrev main_call1_v13 : Ref sig .tc := ⟨.hbm, 188, rfl⟩
abbrev main_call1_cst_4 : Ref sig .tc := ⟨.hbm, 189, rfl⟩
abbrev main_call1_call0_v0 : Ref sig .tc := ⟨.hbm, 190, rfl⟩
abbrev main_call1_call0_v1 : Ref sig .tc := ⟨.hbm, 191, rfl⟩
abbrev main_v122 : Ref sig .tc := ⟨.hbm, 192, rfl⟩
abbrev main_v123 : Ref sig .tc := ⟨.hbm, 193, rfl⟩
abbrev main_v124 : Ref sig .tc := ⟨.hbm, 194, rfl⟩
abbrev main_cst_21 : Ref sig .tc := ⟨.hbm, 195, rfl⟩
abbrev main_v125 : Ref sig .tc := ⟨.hbm, 196, rfl⟩
abbrev main_v126 : Ref sig .tc := ⟨.hbm, 197, rfl⟩
abbrev main_v127 : Ref sig .tc := ⟨.hbm, 198, rfl⟩
abbrev main_v128 : Ref sig .tc := ⟨.hbm, 199, rfl⟩
abbrev main_v129 : Ref sig .tc := ⟨.hbm, 200, rfl⟩
abbrev main_v130 : Ref sig .tc := ⟨.hbm, 201, rfl⟩
abbrev main_v131 : Ref sig .tc := ⟨.hbm, 202, rfl⟩
abbrev main_v132 : Ref sig .tc := ⟨.hbm, 203, rfl⟩
abbrev main_v133 : Ref sig .tc := ⟨.hbm, 204, rfl⟩
abbrev main_v134 : Ref sig .tc := ⟨.hbm, 205, rfl⟩
abbrev main_v135 : Ref sig .tc := ⟨.hbm, 206, rfl⟩

abbrev nD : Nat := 1
abbrev τ : Topo := Topo.v7x

variable {F : FTy → Type} [FloatOps F]
-- ==== Proof.TopRounds.lean ====
/- Taking the greatest of a row again and again, and sorting the row, pick the same positions. -/
module

public import Idealize.ShloMosaic.Lib.SortPrefix
public import Idealize.ShloMosaic.PureOps.Ideal

@[expose] public section

noncomputable section

namespace Cert.Router

open Idealize.ShloMosaic

/-- `p` is the place of the greatest value of the row `f`, the first such place when several are equal. -/
def IsPick {n : ℕ} (f : Fin n → EReal) (p : Fin n) : Prop := (∀ m, f m ≤ f p) ∧ ∀ m, f m = f p → p ≤ m

/-- A row with at least one entry has a first greatest place. -/
theorem exists_isPick {n : ℕ} [NeZero n] (f : Fin n → EReal) : ∃ p, IsPick f p := by
  classical
  obtain ⟨q, _, hq⟩ := Finset.exists_max_image (Finset.univ : Finset (Fin n)) f ⟨0, Finset.mem_univ _⟩
  have hne : (Finset.univ.filter fun m => f m = f q).Nonempty := ⟨q, by simp⟩
  refine ⟨(Finset.univ.filter fun m => f m = f q).min' hne, ?_, ?_⟩
  · have h := Finset.min'_mem _ hne
    rw [Finset.mem_filter] at h
    intro m
    rw [h.2]
    exact hq m (Finset.mem_univ m)
  · have h := Finset.min'_mem _ hne
    rw [Finset.mem_filter] at h
    intro m hm
    exact Finset.min'_le _ _ (by simp [hm, h.2])

/-- The first greatest place of a row. -/
def pick {n : ℕ} [NeZero n] (f : Fin n → EReal) : Fin n := (exists_isPick f).choose

/-- The chosen place is a pick. -/
theorem isPick_pick {n : ℕ} [NeZero n] (f : Fin n → EReal) : IsPick f (pick f) := (exists_isPick f).choose_spec

/-- A row has only one first greatest place. -/
theorem IsPick.eq {n : ℕ} [NeZero n] {f : Fin n → EReal} {p : Fin n} (h : IsPick f p) : p = pick f := by
  have h' := isPick_pick f
  have e : f p = f (pick f) := le_antisymm (h'.1 p) (h.1 _)
  exact le_antisymm (h.2 _ e.symm) (h'.2 _ e)

/-- One round: the first greatest entry of the row is replaced by minus infinity. -/
def strike {n : ℕ} [NeZero n] (f : Fin n → EReal) : Fin n → EReal := fun m => if m = pick f then ⊥ else f m

/-- The row after `k` rounds. -/
def struck {n : ℕ} [NeZero n] (f : Fin n → EReal) : ℕ → Fin n → EReal
  | 0 => f
  | k + 1 => strike (struck f k)

/-- The place that round `k` picks. -/
def pickAt {n : ℕ} [NeZero n] (f : Fin n → EReal) (k : ℕ) : Fin n := pick (struck f k)

/-- After `k` rounds the row holds minus infinity at the places picked so far and its own entries elsewhere. -/
theorem struck_eq {n : ℕ} [NeZero n] (f : Fin n → EReal) (k : ℕ) (m : Fin n) :
    struck f k m = if ∃ j, j < k ∧ m = pickAt f j then ⊥ else f m := by
  induction k with
  | zero => simp [struck]
  | succ k ih =>
    show strike (struck f k) m = _
    unfold strike
    by_cases h : m = pick (struck f k)
    · rw [if_pos h, if_pos ⟨k, Nat.lt_succ_self k, h⟩]
    · rw [if_neg h, ih]
      refine if_congr ⟨fun ⟨j, hj, e⟩ => ⟨j, by omega, e⟩, fun ⟨j, hj, e⟩ => ?_⟩ rfl rfl
      rcases Nat.lt_succ_iff_lt_or_eq.mp hj with h' | h'
      · exact ⟨j, h', e⟩
      · subst h'; exact absurd e h

/-- While entries are left, a round picks a place that no earlier round picked. -/
theorem pickAt_fresh {n : ℕ} [NeZero n] (f : Fin n → EReal) (hf : ∀ m, f m ≠ ⊥) (k : ℕ) (hk : k < n) (j : ℕ) (hj : j < k) :
    pickAt f k ≠ pickAt f j := by
  classical
  intro e
  have hbot : struck f k (pickAt f k) = ⊥ := by rw [struck_eq, if_pos ⟨j, hj, e⟩]
  have hall : ∀ m, ∃ i, i < k ∧ m = pickAt f i := by
    intro m
    by_contra hm
    have h1 := (isPick_pick (struck f k)).1 m
    rw [show struck f k (pick (struck f k)) = ⊥ from hbot, struck_eq, if_neg hm] at h1
    exact hf m (le_bot_iff.mp h1)
  have hsub : (Finset.univ : Finset (Fin n)) ⊆ (Finset.range k).image (pickAt f) := by
    intro m _
    obtain ⟨i, hi, e⟩ := hall m
    exact Finset.mem_image.mpr ⟨i, Finset.mem_range.mpr hi, e.symm⟩
  have hc := (Finset.card_le_card hsub).trans Finset.card_image_le
  rw [Finset.card_univ, Fintype.card_fin, Finset.card_range] at hc
  omega

/-- `a` comes before `b` in the row: its entry is greater, or the entries are equal and its place is earlier. -/
def before {n : ℕ} (f : Fin n → EReal) (a b : Fin n) : Bool :=
  decide (f b < f a) || (decide (f a = f b) && decide (a < b))

/-- The order of the places is strict and total. -/
theorem before_strict {n : ℕ} (f : Fin n → EReal) : StrictTotalBefore (before f) :=
  StrictTotalBefore.of_key_then_position (fun x y : EReal => decide (y < x)) f (by simp)
    (fun a b c h h' => by simp only [decide_eq_true_eq] at *; exact lt_trans h' h)
    (fun a b => by
      simp only [decide_eq_true_eq]
      rcases lt_trichotomy a b with h | h | h
      · exact Or.inr (Or.inr h)
      · exact Or.inr (Or.inl h)
      · exact Or.inl h)

/-- A stable sort by the entries alone lists ascending places as the sort by entry and then place does. -/
theorem stableSort_key {n : ℕ} (f : Fin n → EReal) (l : List (Fin n)) (hl : l.Pairwise (· < ·)) :
    stableSort (fun a b => decide (f b < f a)) l = stableSort (before f) l := by
  induction l with
  | nil => rfl
  | cons a l ih =>
    rw [List.pairwise_cons] at hl
    unfold stableSort
    rw [ih hl.2]
    refine insertBefore_congr _ _ a _ fun b hb => ?_
    have hab := hl.1 b ((perm_stableSort _ l).mem_iff.mp hb)
    unfold before
    simp [not_lt.mpr hab.le]

/-- A stable sort of a row by its entries alone is the sort by entry and then place. -/
theorem sortedFrom_key {n : ℕ} (f : Fin n → EReal) :
    sortedFrom (fun a b => decide (f b < f a)) = sortedFrom (before f) := by
  have h : sortPositions n (fun a b => decide (f b < f a)) = sortPositions n (before f) :=
    stableSort_key f _ (List.pairwise_lt_finRange n)
  funext k
  unfold sortedFrom
  rw [List.get_of_eq h]
  rfl

/-- THE TWO ROUTERS PICK THE SAME PLACES: the `i`-th place of the row sorted greatest first is the place of round `i`. -/
theorem sortedFrom_eq_pickAt {n k : ℕ} [NeZero n] (f : Fin n → EReal) (hf : ∀ m, f m ≠ ⊥) (hk : k ≤ n) (i : Fin k) :
    sortedFrom (fun a b => decide (f b < f a)) (i.castLE hk) = pickAt f i.val := by
  rw [sortedFrom_key]
  have own : ∀ i : Fin k, struck f i.val (pickAt f i.val) = f (pickAt f i.val) := fun i => by
    rw [struck_eq, if_neg]
    rintro ⟨j, hj, e⟩
    exact pickAt_fresh f hf i.val (by omega) j hj e
  have key : ∀ (i : Fin k) (p : Fin n), (∀ j, j < i.val → p ≠ pickAt f j) → before f p (pickAt f i.val) = false := by
    intro i p hp
    have hpi : struck f i.val p = f p := by
      rw [struck_eq, if_neg]
      rintro ⟨j, hj, e⟩
      exact hp j hj e
    have h := isPick_pick (struck f i.val)
    have h1 := h.1 p
    have h2 := h.2 p
    rw [hpi, show struck f i.val (pick (struck f i.val)) = f (pickAt f i.val) from own i] at h1 h2
    unfold before
    rw [Bool.or_eq_false_iff, Bool.and_eq_false_iff]
    refine ⟨decide_eq_false (not_lt.mpr h1), ?_⟩
    by_cases e : f p = f (pickAt f i.val)
    · exact Or.inr (decide_eq_false (not_lt.mpr (h2 e)))
    · exact Or.inl (decide_eq_false e)
  refine (before_strict f).sortedFrom_eq_of_prefix hk (fun i => pickAt f i.val) ?_ ?_ ?_ i
  · intro a b hab
    rcases lt_trichotomy a b with h | h | h
    · exact absurd hab.symm (pickAt_fresh f hf b.val (by omega) a.val h)
    · exact h
    · exact absurd hab (pickAt_fresh f hf a.val (by omega) b.val h)
  · intro i j hij
    exact key i _ fun l hl => pickAt_fresh f hf j.val (by omega) l (by have : i.val < j.val := hij; omega)
  · intro i p hp
    exact key i p fun l hl e => hp ⟨l, by omega⟩ e.symm

/-- The first `k` rounds pick `k` different places. -/
theorem pickAt_injective {n k : ℕ} [NeZero n] (f : Fin n → EReal) (hf : ∀ m, f m ≠ ⊥) (hk : k ≤ n) :
    Function.Injective fun i : Fin k => pickAt f i.val := by
  intro a b hab
  rcases lt_trichotomy a b with h | h | h
  · exact absurd hab.symm (pickAt_fresh f hf b.val (by omega) a.val h)
  · exact h
  · exact absurd hab (pickAt_fresh f hf a.val (by omega) b.val h)

end Cert.Router
-- ==== Proof.Reals.lean ====
/- Extended reals that are real numbers, and what keeps them so. -/
module

public import Idealize.ShloMosaic.PureOps.Ideal

@[expose] public section

noncomputable section

namespace Cert.Router

open Idealize.ShloMosaic

/-- The extended real is a real number. -/
def IsFin (e : EReal) : Prop := e ≠ ⊤ ∧ e ≠ ⊥

/-- A real is finite. -/
theorem isFin_coe (r : ℝ) : IsFin (r : EReal) := ⟨EReal.coe_ne_top r, EReal.coe_ne_bot r⟩

/-- A finite number is a real. -/
theorem IsFin.exists {e : EReal} (h : IsFin e) : ∃ r : ℝ, e = r :=
  ⟨e.toReal, (EReal.coe_toReal h.1 h.2).symm⟩

/-- Zero is finite. -/
theorem isFin_zero : IsFin 0 := isFin_coe 0

/-- One is finite. -/
theorem isFin_one : IsFin 1 := isFin_coe 1

/-- A sum of finite numbers is finite. -/
theorem IsFin.add {a b : EReal} (ha : IsFin a) (hb : IsFin b) : IsFin (a + b) := by
  obtain ⟨x, rfl⟩ := ha.exists
  obtain ⟨y, rfl⟩ := hb.exists
  rw [← EReal.coe_add]; exact isFin_coe _

/-- So is a difference. -/
theorem IsFin.sub {a b : EReal} (ha : IsFin a) (hb : IsFin b) : IsFin (a - b) := by
  obtain ⟨x, rfl⟩ := ha.exists
  obtain ⟨y, rfl⟩ := hb.exists
  rw [← EReal.coe_sub]; exact isFin_coe _

/-- So is a product. -/
theorem IsFin.mul {a b : EReal} (ha : IsFin a) (hb : IsFin b) : IsFin (a * b) := by
  obtain ⟨x, rfl⟩ := ha.exists
  obtain ⟨y, rfl⟩ := hb.exists
  rw [← EReal.coe_mul]; exact isFin_coe _

/-- So is a negation. -/
theorem IsFin.neg {a : EReal} (ha : IsFin a) : IsFin (-a) := by
  obtain ⟨x, rfl⟩ := ha.exists
  rw [← EReal.coe_neg]; exact isFin_coe _

/-- So is a sum over a finite set. -/
theorem isFin_sum {ι : Type} (s : Finset ι) (f : ι → EReal) (h : ∀ i, IsFin (f i)) : IsFin (∑ i ∈ s, f i) := by
  classical
  induction s using Finset.induction_on with
  | empty => rw [Finset.sum_empty]; exact isFin_zero
  | insert a s ha ih => rw [Finset.sum_insert ha]; exact (h a).add ih

/-- So is a quotient by a number that is not zero. -/
theorem isFin_div {a b : EReal} (ha : IsFin a) (hb : IsFin b) (h0 : b ≠ 0) : IsFin (Ideal.div a b) := by
  obtain ⟨y, rfl⟩ := hb.exists
  rw [Ideal.div_coe (by exact_mod_cast h0)]
  exact ha.mul (isFin_coe _)

/-- So is an exponential. -/
theorem isFin_exp {a : EReal} (ha : IsFin a) : IsFin (Ideal.exp a) := by
  obtain ⟨x, rfl⟩ := ha.exists
  exact isFin_coe _

/-- An exponential of a finite number is positive. -/
theorem exp_pos {a : EReal} (ha : IsFin a) : 0 < Ideal.exp a := by
  obtain ⟨x, rfl⟩ := ha.exists
  show (0 : EReal) < ((Real.exp x : ℝ) : EReal)
  exact_mod_cast Real.exp_pos x

/-- The error function is finite everywhere. -/
theorem isFin_erf (a : EReal) : IsFin (Ideal.erf a) := by
  induction a using EReal.rec with
  | bot => exact isFin_one.neg
  | coe x => exact isFin_coe _
  | top => exact isFin_one

/-- The error function is odd. -/
theorem erf_neg (a : EReal) : Ideal.erf (-a) = -Ideal.erf a := by
  induction a using EReal.rec with
  | bot => rw [EReal.neg_bot]; show (1 : EReal) = - -1; rw [neg_neg]
  | top => rw [EReal.neg_top]; rfl
  | coe x =>
    rw [← EReal.coe_neg]
    show ((2 / Real.sqrt Real.pi * ∫ t in (0 : ℝ)..(-x), Real.exp (-(t ^ 2)) : ℝ) : EReal)
      = -((2 / Real.sqrt Real.pi * ∫ t in (0 : ℝ)..x, Real.exp (-(t ^ 2)) : ℝ) : EReal)
    rw [← EReal.coe_neg, ← mul_neg]
    congr 2
    have h := intervalIntegral.integral_comp_neg (a := 0) (b := x) (fun t : ℝ => Real.exp (-(t ^ 2)))
    simp only [neg_zero, neg_sq] at h
    rw [h, intervalIntegral.integral_symm]

/-- A sum of a positive number and of numbers that are not negative is positive. -/
theorem sum_pos_of {ι : Type} (s : Finset ι) (f : ι → EReal) (h : ∀ i, 0 ≤ f i) (a : ι) (ha : a ∈ s) (hp : 0 < f a) :
    0 < ∑ i ∈ s, f i :=
  lt_of_lt_of_le hp (Finset.single_le_sum (fun i _ => h i) ha)

/-- A quotient of a real number by one is the number. -/
theorem div_one' (a : EReal) : Ideal.div a 1 = a := by
  rw [show (1 : EReal) = ((1 : ℝ) : EReal) from rfl, Ideal.div_coe one_ne_zero]
  simp

/-- The sigmoid of a real number is a real number. -/
theorem isFin_sigmoid {a : EReal} (ha : IsFin a) : IsFin (Ideal.div 1 (1 + Ideal.exp (-a))) := by
  refine isFin_div isFin_one (isFin_one.add (isFin_exp ha.neg)) (ne_of_gt ?_)
  exact lt_of_lt_of_le zero_lt_one (le_add_of_nonneg_right (exp_pos ha.neg).le)

/-- A finite number is greater than minus infinity. -/
theorem IsFin.ne_bot {a : EReal} (ha : IsFin a) : a ≠ ⊥ := ha.2

/-- A family of finite numbers is a family of reals. -/
theorem exists_real_fun {ι : Type} {f : ι → EReal} (h : ∀ i, IsFin (f i)) : ∃ g : ι → ℝ, f = fun i => ((g i : ℝ) : EReal) :=
  ⟨fun i => (f i).toReal, funext fun i => (EReal.coe_toReal (h i).1 (h i).2).symm⟩

/-- A sum of reals is the same sum taken in the extended reals. -/
theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- Two products of real arrays, the middle one summed first or last. -/
theorem sum_mul_sum {ι κ : Type} [Fintype ι] [Fintype κ] (x : κ → EReal) (s : ι → κ → EReal) (w : ι → EReal)
    (hx : ∀ m, IsFin (x m)) (hs : ∀ i m, IsFin (s i m)) (hw : ∀ i, IsFin (w i)) :
    ∑ m, x m * ∑ i, w i * s i m = ∑ i, (∑ m, x m * s i m) * w i := by
  obtain ⟨x', rfl⟩ := exists_real_fun hx
  obtain ⟨w', rfl⟩ := exists_real_fun hw
  obtain ⟨s', hs'⟩ := exists_real_fun (f := fun p : ι × κ => s p.1 p.2) (fun p => hs p.1 p.2)
  have hs2 : ∀ i m, s i m = ((s' (i, m) : ℝ) : EReal) := fun i m => congrFun hs' (i, m)
  simp only [hs2, ← EReal.coe_mul, ← coe_sum]
  congr 1
  simp only [Finset.mul_sum, Finset.sum_mul]
  rw [Finset.sum_comm]
  exact Finset.sum_congr rfl fun i _ => Finset.sum_congr rfl fun m _ => by ring

/-- The blend of two real numbers written with one product or with two. -/
theorem blend {c r g : EReal} (hc : IsFin c) (hr : IsFin r) (hg : IsFin g) : c + g * (r - c) = g * r + (1 - g) * c := by
  obtain ⟨c, rfl⟩ := hc.exists
  obtain ⟨r, rfl⟩ := hr.exists
  obtain ⟨g, rfl⟩ := hg.exists
  rw [show (1 : EReal) = ((1 : ℝ) : EReal) from rfl]
  simp only [← EReal.coe_mul, ← EReal.coe_add, ← EReal.coe_sub]
  congr 1
  ring

end Cert.Router
-- ==== Proof.Weights.lean ====
/- The router's weights on one row: the softmax over the eight picked places, zero elsewhere. -/
module

public import proofs.«01_k».proof.Proof.TopRounds
public import proofs.«01_k».proof.Proof.Reals

@[expose] public section

noncomputable section

namespace Cert.Router

open Idealize.ShloMosaic

/-- The place is picked in one of the first eight rounds. -/
def Picked (f : Fin 512 → EReal) (m : Fin 512) : Prop := ∃ j, j < 8 ∧ m = pickAt f j

open Classical in
/-- The greatest picked entry. -/
def topVal (f : Fin 512 → EReal) : EReal := Finset.univ.fold max ⊥ fun m => if Picked f m then f m else ⊥

open Classical in
/-- The numerator of a place's weight. -/
def numer (f : Fin 512 → EReal) (m : Fin 512) : EReal := if Picked f m then Ideal.exp (f m - topVal f) else 0

/-- A place's weight. -/
def weight (f : Fin 512 → EReal) (m : Fin 512) : EReal := Ideal.div (numer f m) (∑ m, numer f m)

/-- Each round's place is picked. -/
theorem picked_pickAt (f : Fin 512 → EReal) (k : Fin 8) : Picked f (pickAt f k.val) := ⟨k.val, k.isLt, rfl⟩

open Classical in
/-- A sum over the picked places is the sum over the eight rounds. -/
theorem sum_picked (f : Fin 512 → EReal) (hf : ∀ m, IsFin (f m)) (h : Fin 512 → EReal) :
    (∑ m, if Picked f m then h m else 0) = ∑ k : Fin 8, h (pickAt f k.val) := by
  have hs : (Finset.univ.filter fun m => Picked f m) = Finset.univ.image fun k : Fin 8 => pickAt f k.val := by
    ext m
    constructor
    · intro hm
      obtain ⟨j, hj, e⟩ := (Finset.mem_filter.mp hm).2
      exact Finset.mem_image.mpr ⟨⟨j, hj⟩, Finset.mem_univ _, e.symm⟩
    · intro hm
      obtain ⟨k, _, e⟩ := Finset.mem_image.mp hm
      exact Finset.mem_filter.mpr ⟨Finset.mem_univ _, k.val, k.isLt, e.symm⟩
  rw [← Finset.sum_filter, hs,
    Finset.sum_image fun a _ b _ e => pickAt_injective f (fun m => (hf m).2) (by omega : 8 ≤ 512) e]

/-- The greatest picked entry is the greatest of the eight rounds' entries. -/
theorem topVal_eq (f : Fin 512 → EReal) :
    topVal f = Finset.univ.fold max ⊥ fun k : Fin 8 => f (pickAt f k.val) := by
  classical
  show Finset.univ.sup (fun m => if Picked f m then f m else ⊥) = Finset.univ.sup fun k : Fin 8 => f (pickAt f k.val)
  refine le_antisymm (Finset.sup_le fun m _ => ?_) (Finset.sup_le fun k _ => ?_)
  · split
    · next h =>
      obtain ⟨j, hj, rfl⟩ := h
      exact Finset.le_sup (f := fun k : Fin 8 => f (pickAt f k.val)) (Finset.mem_univ (⟨j, hj⟩ : Fin 8))
    · exact bot_le
  · refine le_trans (le_of_eq ?_) (Finset.le_sup (Finset.mem_univ (pickAt f k.val)))
    rw [if_pos (picked_pickAt f k)]

/-- The greatest of real entries, of which there is one, is real. -/
theorem isFin_fold_max {ι : Type} [Fintype ι] [Nonempty ι] (v : ι → EReal) (hv : ∀ i, IsFin (v i)) :
    IsFin (Finset.univ.fold max ⊥ v) := by
  have h : Finset.univ.fold max ⊥ v = Finset.univ.sup v := rfl
  obtain ⟨i, _, hi⟩ := Finset.exists_mem_eq_sup Finset.univ Finset.univ_nonempty v
  rw [h, hi]
  exact hv i

/-- The largest value is finite. -/
theorem isFin_topVal (f : Fin 512 → EReal) (hf : ∀ m, IsFin (f m)) : IsFin (topVal f) := by
  rw [topVal_eq]; exact isFin_fold_max _ fun k => hf _

/-- The numerator at a picked place. -/
theorem numer_pickAt (f : Fin 512 → EReal) (k : Fin 8) :
    numer f (pickAt f k.val) = Ideal.exp (f (pickAt f k.val) - topVal f) := if_pos (picked_pickAt f k)

/-- The numerators' sum over all places is that over the rounds. -/
theorem sum_numer (f : Fin 512 → EReal) (hf : ∀ m, IsFin (f m)) :
    ∑ m, numer f m = ∑ k : Fin 8, Ideal.exp (f (pickAt f k.val) - topVal f) :=
  sum_picked f hf fun m => Ideal.exp (f m - topVal f)

/-- A numerator is finite. -/
theorem isFin_numer (f : Fin 512 → EReal) (hf : ∀ m, IsFin (f m)) (m : Fin 512) : IsFin (numer f m) := by
  unfold numer
  split
  · exact isFin_exp ((hf m).sub (isFin_topVal f hf))
  · exact isFin_zero

/-- A sum of exponentials of real numbers is positive. -/
theorem sum_exp_pos {ι : Type} [Fintype ι] [Nonempty ι] (v : ι → EReal) (hv : ∀ i, IsFin (v i)) : 0 < ∑ i, Ideal.exp (v i) :=
  sum_pos_of _ _ (fun i => (exp_pos (hv i)).le) (Classical.arbitrary ι) (Finset.mem_univ _) (exp_pos (hv _))

/-- The numerators' sum is not zero. -/
theorem sum_numer_ne_zero (f : Fin 512 → EReal) (hf : ∀ m, IsFin (f m)) : ∑ m, numer f m ≠ 0 := by
  rw [sum_numer f hf]
  exact ne_of_gt (sum_exp_pos _ fun k => (hf _).sub (isFin_topVal f hf))

/-- On a row of real numbers every weight is a real number. -/
theorem isFin_weight (f : Fin 512 → EReal) (hf : ∀ m, IsFin (f m)) (m : Fin 512) : IsFin (weight f m) :=
  isFin_div (isFin_numer f hf m) (isFin_sum _ _ (isFin_numer f hf)) (sum_numer_ne_zero f hf)

/-- THE WEIGHTS ARE THE SOFTMAX OVER THE SORTED ENTRIES, at the picked places. -/
theorem weight_pickAt (f : Fin 512 → EReal) (hf : ∀ m, IsFin (f m)) (k : Fin 8) :
    weight f (pickAt f k.val) = Ideal.div
      (Ideal.exp (f (pickAt f k.val) - Finset.univ.fold max ⊥ fun k : Fin 8 => f (pickAt f k.val)))
      (∑ k : Fin 8, Ideal.exp (f (pickAt f k.val) - Finset.univ.fold max ⊥ fun k : Fin 8 => f (pickAt f k.val))) := by
  unfold weight
  rw [sum_numer f hf, numer_pickAt, topVal_eq]

/-- A place that is not picked has weight zero. -/
theorem weight_of_not_picked (f : Fin 512 → EReal) (hf : ∀ m, IsFin (f m)) (m : Fin 512) (h : ¬ Picked f m) :
    weight f m = 0 := by
  unfold weight
  have e : numer f m = 0 := if_neg h
  rw [e, Ideal.div, if_neg (sum_numer_ne_zero f hf), zero_mul]

/-- THE WEIGHTED SUM OVER ALL PLACES is the weighted sum over the eight picked ones. -/
theorem sum_weight (f : Fin 512 → EReal) (hf : ∀ m, IsFin (f m)) (x : Fin 512 → EReal) :
    ∑ m, x m * weight f m = ∑ k : Fin 8, x (pickAt f k.val) * weight f (pickAt f k.val) := by
  classical
  rw [← sum_picked f hf fun m => x m * weight f m]
  refine Finset.sum_congr rfl fun m _ => ?_
  split
  · rfl
  · next h => rw [weight_of_not_picked f hf m h, mul_zero]

end Cert.Router
-- ==== Proof.Spec.lean ====
/- The function that both programs compute, as sums and scalar functions of the arguments' entries. -/
module

public import proofs.«01_k».proof.Proof.Weights

@[expose] public section

noncomputable section

namespace Cert.Router

open Idealize.ShloMosaic

/-- The twenty arguments, by their entries. -/
structure Args where
  x : Fin 8 → Fin 1024 → Fin 512 → EReal
  ve : Fin 512 → Fin 16 → EReal
  wq : Fin 16 → Fin 16 → EReal
  bq : Fin 16 → EReal
  wk : Fin 16 → Fin 16 → EReal
  bk : Fin 16 → EReal
  ws : Fin 512 → EReal
  bs : EReal
  wc1 : Fin 64 → Fin 512 → EReal
  bc1 : Fin 64 → EReal
  wc2 : Fin 64 → Fin 64 → EReal
  bc2 : Fin 64 → EReal
  wcn : Fin 512 → Fin 64 → EReal
  bcn : Fin 512 → EReal
  wg : Fin 512 → Fin 1024 → EReal
  bg : Fin 512 → EReal
  wf : Fin 512 → Fin 512 → EReal
  bf : Fin 512 → EReal
  lnw : Fin 512 → EReal
  lnb : Fin 512 → EReal

/-- The arguments that the router, the center path and the gate multiply are real numbers. -/
structure Args.Finite (A : Args) : Prop where
  x : ∀ b l n, IsFin (A.x b l n)
  ve : ∀ n k, IsFin (A.ve n k)
  wq : ∀ n k, IsFin (A.wq n k)
  bq : ∀ n, IsFin (A.bq n)
  wk : ∀ n k, IsFin (A.wk n k)
  bk : ∀ n, IsFin (A.bk n)
  ws : ∀ n, IsFin (A.ws n)
  bs : IsFin A.bs
  wc1 : ∀ n k, IsFin (A.wc1 n k)
  bc1 : ∀ n, IsFin (A.bc1 n)
  wc2 : ∀ n k, IsFin (A.wc2 n k)
  bc2 : ∀ n, IsFin (A.bc2 n)
  wcn : ∀ n k, IsFin (A.wcn n k)
  bcn : ∀ n, IsFin (A.bcn n)
  wg : ∀ n k, IsFin (A.wg n k)

/-- The exact Gaussian unit, with the printed constants. -/
def gelu (v : EReal) : EReal :=
  Ideal.ofBits .f32 (0x3F000000#32) * v * Ideal.erfc (-v * Ideal.ofBits .f32 (0x3F3504F3#32))

namespace Args

variable (A : Args)

/-- The similarity of two variables, the diagonal masked. -/
def sim (n m : Fin 512) : EReal :=
  if n = m then Ideal.ofBits .f32 (0xCE6E6B28#32)
  else ∑ k, (∑ j, A.ve n j * A.wq k j + A.bq k) * (∑ j, A.ve m j * A.wk k j + A.bk k)

/-- The routed mixture of the variables. -/
def ring (b : Fin 8) (l : Fin 1024) (n : Fin 512) : EReal := ∑ m, A.x b l m * weight (A.sim n) m

/-- The score of a time step. -/
def score (b : Fin 8) (l : Fin 1024) : EReal := ∑ n, A.x b l n * A.ws n + A.bs

/-- The exponential of a score less the greatest score. -/
def expo (b : Fin 8) (l : Fin 1024) : EReal := Ideal.exp (A.score b l - Finset.univ.fold max ⊥ (A.score b))

/-- The attention-weighted mean over time. -/
def craw (b : Fin 8) (n : Fin 512) : EReal := ∑ l, A.x b l n * Ideal.div (A.expo b l) (∑ l, A.expo b l)

/-- The center path's two hidden layers and its result. -/
def hid1 (b : Fin 8) (d : Fin 64) : EReal := gelu (∑ n, A.craw b n * A.wc1 d n + A.bc1 d)

/-- The second layer, after its unit. -/
def hid2 (b : Fin 8) (d : Fin 64) : EReal := gelu (∑ e, A.hid1 b e * A.wc2 d e + A.bc2 d)

/-- The center path's result. -/
def cv (b : Fin 8) (n : Fin 512) : EReal := ∑ d, A.hid2 b d * A.wcn n d + A.bcn n

/-- The gate's first and second column halves. -/
def wg1 (n i : Fin 512) : EReal := A.wg n ⟨i.val, by omega⟩

/-- The gate's second half, which multiplies the center path's result. -/
def wg2 (n i : Fin 512) : EReal := A.wg n ⟨512 + i.val, by omega⟩

/-- The gate. -/
def gate (b : Fin 8) (l : Fin 1024) (n : Fin 512) : EReal :=
  Ideal.div 1 (1 + Ideal.exp (-(∑ i, A.ring b l i * A.wg1 n i + ∑ i, A.cv b i * A.wg2 n i + A.bg n)))

/-- The gated blend. -/
def fused (b : Fin 8) (l : Fin 1024) (n : Fin 512) : EReal :=
  A.gate b l n * A.ring b l n + (1 - A.gate b l n) * A.cv b n

/-- The blend's projection with the input added. -/
def res (b : Fin 8) (l : Fin 1024) (n : Fin 512) : EReal := ∑ m, A.fused b l m * A.wf n m + A.bf n + A.x b l n

/-- The residual less its mean over the variables. -/
def dev (b : Fin 8) (l : Fin 1024) (n : Fin 512) : EReal :=
  A.res b l n - Ideal.div (∑ m, A.res b l m) (Ideal.ofBits .f32 (0x44000000#32))

/-- The variance over the variables, with the printed epsilon added. -/
def vareps (b : Fin 8) (l : Fin 1024) : EReal :=
  Ideal.div (∑ m, A.dev b l m * A.dev b l m) (Ideal.ofBits .f32 (0x44000000#32)) + Ideal.ofBits .f32 (0x3727C5AC#32)

/-- The result. -/
def out (b : Fin 8) (l : Fin 1024) (n : Fin 512) : EReal :=
  A.dev b l n * Ideal.rsqrt (A.vareps b l) * A.lnw n + A.lnb n

end Args

end Cert.Router
-- ==== Proof.SpecFinite.lean ====
/- On real arguments the router, the center path and the gate stay real. -/
module

public import proofs.«01_k».proof.Proof.Spec

@[expose] public section

noncomputable section

namespace Cert.Router

open Idealize.ShloMosaic

/-- A 32-bit pattern whose exponent field is not all ones reads as a real number. -/
theorem isFin_f32 (w : BitVec 32) (h : (w.extractLsb' 23 8).toNat ≠ 255) : IsFin (Ideal.ofBits .f32 w) := by
  show IsFin (Ideal.ieee 8 23 w)
  unfold Ideal.ieee
  have h' : ¬ (w.extractLsb' 23 8).toNat = 2 ^ 8 - 1 := h
  simp only [h', if_false]
  split <;> exact isFin_coe _

/-- The kernel's form of the Gaussian unit is the reference's: the error function is odd. -/
theorem gelu_eq (v : EReal) :
    Ideal.ofBits .f32 (0x3F000000#32) * v * (1 + Ideal.erf (v * Ideal.ofBits .f32 (0x3F3504F3#32))) = gelu v := by
  unfold gelu Ideal.erfc
  rw [EReal.neg_mul, erf_neg, sub_eq_add_neg, neg_neg]

/-- The Gaussian unit of a finite number is finite. -/
theorem isFin_gelu {v : EReal} (hv : IsFin v) : IsFin (gelu v) := by
  unfold gelu Ideal.erfc
  exact ((isFin_f32 _ (by decide)).mul hv).mul (isFin_one.sub (isFin_erf _))

namespace Args

variable {A : Args} (h : A.Finite)
include h

/-- The similarities are finite. -/
theorem isFin_sim (n m : Fin 512) : IsFin (A.sim n m) := by
  unfold sim
  split
  · exact isFin_f32 _ (by decide)
  · refine isFin_sum _ _ fun k => IsFin.mul ?_ ?_
    · exact (isFin_sum _ _ fun j => (h.ve n j).mul (h.wq k j)).add (h.bq k)
    · exact (isFin_sum _ _ fun j => (h.ve m j).mul (h.wk k j)).add (h.bk k)

/-- The router's weights are finite. -/
theorem isFin_weight (n m : Fin 512) : IsFin (weight (A.sim n) m) := Cert.Router.isFin_weight _ (isFin_sim h n) m

/-- The aggregate is finite. -/
theorem isFin_ring (b : Fin 8) (l : Fin 1024) (n : Fin 512) : IsFin (A.ring b l n) :=
  isFin_sum _ _ fun m => (h.x b l m).mul (isFin_weight h n m)

/-- The scores are finite. -/
theorem isFin_score (b : Fin 8) (l : Fin 1024) : IsFin (A.score b l) :=
  (isFin_sum _ _ fun n => (h.x b l n).mul (h.ws n)).add h.bs

/-- So is a score less the largest. -/
theorem isFin_scoreDev (b : Fin 8) (l : Fin 1024) : IsFin (A.score b l - Finset.univ.fold max ⊥ (A.score b)) :=
  (isFin_score h b l).sub (isFin_fold_max _ (isFin_score h b))

/-- The pooled input is finite. -/
theorem isFin_craw (b : Fin 8) (n : Fin 512) : IsFin (A.craw b n) :=
  isFin_sum _ _ fun l => (h.x b l n).mul
    (isFin_div (isFin_exp (isFin_scoreDev h b l)) (isFin_sum _ _ fun l => isFin_exp (isFin_scoreDev h b l))
      (ne_of_gt (sum_exp_pos _ (isFin_scoreDev h b))))

/-- The first layer is finite. -/
theorem isFin_hid1 (b : Fin 8) (d : Fin 64) : IsFin (A.hid1 b d) :=
  isFin_gelu ((isFin_sum _ _ fun n => (isFin_craw h b n).mul (h.wc1 d n)).add (h.bc1 d))

/-- The second layer is finite. -/
theorem isFin_hid2 (b : Fin 8) (d : Fin 64) : IsFin (A.hid2 b d) :=
  isFin_gelu ((isFin_sum _ _ fun n => (isFin_hid1 h b n).mul (h.wc2 d n)).add (h.bc2 d))

/-- The center path's result is finite. -/
theorem isFin_cv (b : Fin 8) (n : Fin 512) : IsFin (A.cv b n) :=
  (isFin_sum _ _ fun d => (isFin_hid2 h b d).mul (h.wcn n d)).add (h.bcn n)

/-- The gate's first half: routing first and then projecting, or routing the projection. -/
theorem gate_first (b : Fin 8) (l : Fin 1024) (n : Fin 512) :
    ∑ m, A.x b l m * ∑ i, A.wg1 n i * weight (A.sim i) m = ∑ i, A.ring b l i * A.wg1 n i :=
  sum_mul_sum _ _ _ (h.x b l) (fun i m => isFin_weight h i m) (fun i => h.wg n _)

end Args

/-- The sigmoid of anything is a real number. -/
theorem isFin_sigmoid_any (a : EReal) : IsFin (Ideal.div 1 (1 + Ideal.exp (-a))) := by
  induction a using EReal.rec with
  | coe x => exact isFin_sigmoid (isFin_coe x)
  | bot =>
    rw [EReal.neg_bot, show Ideal.exp ⊤ = ⊤ from rfl, show (1 : EReal) + ⊤ = ⊤ from rfl, Ideal.div, if_neg (by decide),
      EReal.inv_top, mul_zero]
    exact isFin_zero
  | top =>
    rw [EReal.neg_top, show Ideal.exp ⊥ = 0 from rfl, add_zero, div_one']
    exact isFin_one

end Cert.Router
-- ==== Proof.KernelRounds.lean ====
/- One round of the kernel's router, read at an entry: the mask it adds and the row it leaves. -/
module

public import proofs.«01_k».proof.Proof.Gen.KernelIdeal.Skeleton
public import proofs.«01_k».proof.Proof.Weights
public import Idealize.ShloMosaic.Lib.Pointwise

@[expose] public section

set_option maxRecDepth 16384

noncomputable section

namespace Cert.Router

open Idealize.ShloMosaic Idealize.ShloMosaic.TcCoe Idealize.SL.Sem
open Cert.KernelIdeal Cert.KernelIdeal.Gen

/-- The pattern of minus infinity reads as minus infinity. -/
theorem negInf : Ideal.ofBits .f32 (0xFF800000#32) = ⊥ := by
  show Ideal.ieee 8 23 (0xFF800000#32) = ⊥
  unfold Ideal.ieee
  simp

/-- The named mask value is minus infinity. -/
theorem mask_eq : (Named.named (F := Ideal) (φ := .f32) κ "mask" 0xFF61B1E6#32 : EReal) = ⊥ := by
  rfl

/-- The word of a place, read as a signed number, is the place. -/
theorem toInt_place (m : ℕ) (h : m ≤ 512) : (BitVec.ofNat 32 m).toInt = m := by
  have hn : (BitVec.ofNat 32 m).toNat = m := by rw [BitVec.toNat_ofNat]; omega
  rw [BitVec.toInt_eq_toNat_cond, hn, if_pos (by omega)]

/-- Equality of two place words is equality of the places. -/
theorem cmpi_place (m p : Fin 512) :
    IntOp.cmpi CmpIPredicate.eq (BitVec.ofNat 32 m.val) (BitVec.ofNat 32 p.val) = if m = p then 1#1 else 0#1 := by
  have h : BitVec.ofNat 32 m.val = BitVec.ofNat 32 p.val ↔ m = p := by
    refine ⟨fun e => Fin.ext ?_, fun e => e ▸ rfl⟩
    have e' := congrArg BitVec.toInt e
    rw [toInt_place _ (by omega), toInt_place _ (by omega)] at e'
    exact_mod_cast e'
  by_cases e : m = p
  · rw [if_pos e, e]; simp [IntOp.cmpi]
  · rw [if_neg e]
    have h' : (BitVec.ofNat 32 m.val == BitVec.ofNat 32 p.val) = false := beq_eq_false_iff_ne.mpr (mt h.mp e)
    show BitVec.ofBool (BitVec.ofNat 32 m.val == BitVec.ofNat 32 p.val) = 0#1
    rw [h']; rfl

/-- A fold of signed minima is one of the folded words, and no folded word is less. -/
theorem fold_minsi {ι : Type} (s : Finset ι) (b : BitVec 32) (g : ι → BitVec 32) :
    (s.fold IntOp.minsi b g = b ∨ ∃ x ∈ s, s.fold IntOp.minsi b g = g x)
      ∧ ∀ x ∈ s, (s.fold IntOp.minsi b g).toInt ≤ (g x).toInt := by
  classical
  induction s using Finset.induction_on with
  | empty => simp
  | insert a s ha ih =>
    rw [Finset.fold_insert ha]
    obtain ⟨h1, h2⟩ := ih
    generalize s.fold IntOp.minsi b g = r at h1 h2
    by_cases hle : (g a).slt r
    · have e : IntOp.minsi (g a) r = g a := by simp [IntOp.minsi, hle]
      rw [e]
      have hl : (g a).toInt < r.toInt := by simpa [BitVec.slt] using hle
      refine ⟨Or.inr ⟨a, Finset.mem_insert_self a s, rfl⟩, fun x hx => ?_⟩
      rcases Finset.mem_insert.mp hx with rfl | hx
      · exact le_rfl
      · exact hl.le.trans (h2 x hx)
    · have e : IntOp.minsi (g a) r = r := by simp [IntOp.minsi, hle]
      rw [e]
      have hl : r.toInt ≤ (g a).toInt := by simpa [BitVec.slt] using hle
      refine ⟨h1.imp_right fun ⟨x, hx, h⟩ => ⟨x, Finset.mem_insert_of_mem hx, h⟩, fun x hx => ?_⟩
      rcases Finset.mem_insert.mp hx with rfl | hx
      · exact hl
      · exact h2 x hx

/-- The least word over the places that hold the row's greatest entry is the word of the first such place. -/
theorem fold_first (f : Fin 512 → EReal) :
    Finset.univ.fold IntOp.minsi (2147483647#32)
      (fun x : Fin 512 => if f x = Finset.univ.fold max ⊥ f then BitVec.ofNat 32 x.val else 512#32)
      = BitVec.ofNat 32 (pick f).val := by
  have hp := isPick_pick f
  have hmax : Finset.univ.fold max ⊥ f = f (pick f) :=
    le_antisymm (Finset.sup_le fun m _ => hp.1 m) (Finset.le_sup (Finset.mem_univ (pick f)))
  rw [hmax]
  have h := fold_minsi Finset.univ (2147483647#32)
    (fun x : Fin 512 => if f x = f (pick f) then BitVec.ofNat 32 x.val else 512#32)
  generalize Finset.univ.fold IntOp.minsi (2147483647#32)
    (fun x : Fin 512 => if f x = f (pick f) then BitVec.ofNat 32 x.val else 512#32) = r at h ⊢
  obtain ⟨h1, h2⟩ := h
  have hle := h2 (pick f) (Finset.mem_univ _)
  rw [if_pos rfl, toInt_place _ (by omega)] at hle
  have hlt := (pick f).isLt
  rcases h1 with h1 | ⟨x, _, h1⟩
  · rw [h1, show (2147483647#32).toInt = 2147483647 by decide] at hle
    omega
  · by_cases e : f x = f (pick f)
    · rw [if_pos e] at h1
      rw [h1, toInt_place _ (by omega)] at hle
      have h3 : pick f ≤ x := hp.2 x e
      have h4 : x = pick f := le_antisymm (by rw [Fin.le_def]; omega) h3
      rw [h1, h4]
    · rw [if_neg e] at h1
      rw [h1, show (512#32).toInt = 512 by decide] at hle
      omega

/-- The mask that one round adds, as the kernel computes it from the place words `c` and the row block `s`. -/
def selV (c : IVec S512x512 32) (s : FVec Ideal S512x512 .f32) : IVec S512x512 1 :=
  cmpi .eq c (broadcastTo S512x512 (shapeCast S512x1 (multiReductionI .minsi [1] S512
    (select (cmpf .oeq s (broadcastTo S512x512 (shapeCast S512x1
      (multiReduction .maximumf [1] S512 s 0xFF800000#32 reduces_S512x512_S512 (.inl rfl) rfl)
      shapeCasts_S512_S512x1) broadcasts_S512x1_S512x512)) c (broadcast S512x512 512#32))
    2147483647#32 reduces_S512x512_S512 rfl) shapeCasts_S512_S512x1) broadcasts_S512x1_S512x512)

/-- The row block that one round leaves. -/
def strikeV (c : IVec S512x512 32) (s : FVec Ideal S512x512 .f32) : FVec Ideal S512x512 .f32 :=
  select (selV c s) (broadcast S512x512 (Named.named κ "mask" 0xFF61B1E6#32)) s

/-- The place words. -/
def placeV : IVec S512x512 32 := iota .tc S512x512 32 [1] iota_S512x512_d1_w32

/-- One round's mask is set at the picked place of each row and nowhere else. -/
theorem selV_apply (s : FVec Ideal S512x512 .f32) (n m : Fin 512) :
    selV placeV s (ix2 n m) = if m = pick (fun m => s (ix2 n m)) then 1#1 else 0#1 := by
  rw [← cmpi_place, ← fold_first]
  pointwise [selV, placeV]
  simp only [negInf]

/-- One round strikes the picked place of each row. -/
theorem strikeV_apply (s : FVec Ideal S512x512 .f32) (n m : Fin 512) :
    strikeV placeV s (ix2 n m) = strike (fun m => s (ix2 n m)) m := by
  have h := selV_apply s n m
  pointwise [strikeV, h]
  unfold strike
  rw [mask_eq]
  by_cases e : m = pick (fun m => s (ix2 n m))
  · rw [if_pos e, if_pos e]; rfl
  · rw [if_neg e, if_neg e]; rfl

/-- The row block after `k` rounds. -/
def struckV (s : FVec Ideal S512x512 .f32) : ℕ → FVec Ideal S512x512 .f32
  | 0 => s
  | k + 1 => strikeV placeV (struckV s k)

/-- The block struck at the first `k` picks, at an entry. -/
theorem struckV_apply (s : FVec Ideal S512x512 .f32) (k : ℕ) (n m : Fin 512) :
    struckV s k (ix2 n m) = struck (fun m => s (ix2 n m)) k m := by
  induction k generalizing m with
  | zero => rfl
  | succ k ih =>
    show strikeV placeV (struckV s k) (ix2 n m) = strike (struck (fun m => s (ix2 n m)) k) m
    rw [strikeV_apply, funext ih]

/-- The mask after `k` rounds. -/
def maskV (s : FVec Ideal S512x512 .f32) : ℕ → IVec S512x512 1
  | 0 => broadcast S512x512 0#1
  | k + 1 => ori (maskV s k) (selV placeV (struckV s k))

/-- The mask after `k` rounds is set at the places those rounds picked. -/
theorem maskV_apply (s : FVec Ideal S512x512 .f32) (k : ℕ) (n m : Fin 512) :
    maskV s k (ix2 n m) = 1#1 ↔ ∃ j, j < k ∧ m = pickAt (fun m => s (ix2 n m)) j := by
  have one : ∀ a b : BitVec 1, a ||| b = 1#1 ↔ a = 1#1 ∨ b = 1#1 := by decide
  induction k with
  | zero =>
    refine ⟨fun h => ?_, fun ⟨j, hj, _⟩ => absurd hj (Nat.not_lt_zero j)⟩
    exact absurd h (by show (0#1 : BitVec 1) ≠ 1#1; decide)
  | succ k ih =>
    have h := selV_apply (struckV s k) n m
    have h1 : maskV s (k + 1) (ix2 n m) = maskV s k (ix2 n m) ||| selV placeV (struckV s k) (ix2 n m) := rfl
    rw [funext fun m => struckV_apply s k n m] at h
    rw [h1]
    refine (one _ _).trans ((or_congr ih (by rw [h])).trans ?_)
    show _ ∨ (if m = pickAt (fun m => s (ix2 n m)) k then 1#1 else 0#1) = 1#1 ↔ _
    constructor
    · rintro (⟨j, hj, e⟩ | h)
      · exact ⟨j, by omega, e⟩
      · by_cases e : m = pickAt (fun m => s (ix2 n m)) k
        · exact ⟨k, by omega, e⟩
        · rw [if_neg e] at h; exact absurd h (by decide)
    · rintro ⟨j, hj, e⟩
      rcases Nat.lt_succ_iff_lt_or_eq.mp hj with h' | h'
      · exact Or.inl ⟨j, h', e⟩
      · subst h'; exact Or.inr (if_pos e)

end Cert.Router
-- ==== Proof.KernelRouter.lean ====
/- The kernel's router: eight rounds on the similarity block, then the weights. -/
module

public import proofs.«01_k».proof.Proof.KernelRounds

@[expose] public section

set_option maxRecDepth 16384

noncomputable section

namespace Cert.Router

open Idealize.ShloMosaic Idealize.ShloMosaic.TcCoe Idealize.SL.Sem
open Cert.KernelIdeal Cert.KernelIdeal.Gen

variable (c : IVec S512x512 32) (s : FVec Ideal S512x512 .f32)
variable (ve : FVec Ideal S512x16 .f32) (wq : FVec Ideal S16x16 .f32) (bq : FVec Ideal S1x16 .f32)
  (wk : FVec Ideal S16x16 .f32) (bk : FVec Ideal S1x16 .f32)

/-- The rounds' named steps are the rounds: the first mask. -/
theorem pay3_eq : k0_pay3 (F := Ideal) ve wq bq wk bk = selV placeV (k0_pay2 ve wq bq wk bk) := rfl

/-- The mask after the first round. -/
theorem pay4_eq : k0_pay4 (F := Ideal) ve wq bq wk bk = maskV (k0_pay2 ve wq bq wk bk) 1 := rfl

/-- The block struck once. -/
theorem pay5_eq : k0_pay5 (F := Ideal) ve wq bq wk bk = struckV (k0_pay2 ve wq bq wk bk) 1 := rfl

/-- The second round's pick. -/
theorem pay8_eq : k0_pay8 c (k0_pay6 (F := Ideal) ve wq bq wk bk) k0_pay7 = selV c (k0_pay5 (F := Ideal) ve wq bq wk bk) := rfl

/-- The block struck at the second round's pick. -/
theorem pay9_eq : k0_pay9 (F := Ideal) c (k0_pay5 (F := Ideal) ve wq bq wk bk) (k0_pay6 (F := Ideal) ve wq bq wk bk) k0_pay7
    = strikeV c (k0_pay5 (F := Ideal) ve wq bq wk bk) := rfl

variable (v144 : IVec S512x512 1) (v145 : IVec S512x512 32)

/-- The next pick, over the block struck so far. -/
theorem pay10_eq : k0_pay10 (F := Ideal) c s v144 v145 = selV c (k0_pay9 c s v144 v145) := rfl

/-- The block struck at it. -/
theorem pay11_eq : k0_pay11 (F := Ideal) c s v144 v145 = strikeV c (k0_pay9 c s v144 v145) := rfl

/-- The pick after. -/
theorem pay12_eq : k0_pay12 (F := Ideal) c s v144 v145 = selV c (k0_pay11 c s v144 v145) := rfl

/-- The block struck at that one. -/
theorem pay13_eq : k0_pay13 (F := Ideal) c s v144 v145 = strikeV c (k0_pay11 c s v144 v145) := rfl

/-- The pick after that. -/
theorem pay14_eq : k0_pay14 (F := Ideal) c s v144 v145 = selV c (k0_pay13 c s v144 v145) := rfl

/-- The mask gathered so far, with the picks of these rounds. -/
theorem pay15_eq (a : IVec S512x512 1) : k0_pay15 (F := Ideal) c a s v144 v145
    = ori (ori (ori (ori a (k0_pay8 c v144 v145)) (k0_pay10 c s v144 v145)) (k0_pay12 c s v144 v145)) (k0_pay14 c s v144 v145) :=
  rfl

/-- The last three rounds. -/
theorem pay17_eq (a : IVec S512x512 1) : k0_pay17 (F := Ideal) c s (selV c s) a k0_pay16
    = ori (ori (ori a (selV c (strikeV c s))) (selV c (strikeV c (strikeV c s))))
        (selV c (strikeV c (strikeV c (strikeV c s)))) := rfl

/-- The mask of the eight rounds, as the kernel names its steps. -/
theorem mask8_eq :
    k0_pay17 (F := Ideal) placeV
      (k0_pay13 placeV (k0_pay5 (F := Ideal) ve wq bq wk bk) (k0_pay6 (F := Ideal) ve wq bq wk bk) k0_pay7)
      (k0_pay14 placeV (k0_pay5 (F := Ideal) ve wq bq wk bk) (k0_pay6 (F := Ideal) ve wq bq wk bk) k0_pay7)
      (k0_pay15 placeV (k0_pay4 (F := Ideal) ve wq bq wk bk) (k0_pay5 (F := Ideal) ve wq bq wk bk) (k0_pay6 (F := Ideal) ve wq bq wk bk) k0_pay7) k0_pay16
      = maskV (k0_pay2 ve wq bq wk bk) 8 := by
  have e2 : k0_pay9 (F := Ideal) placeV (k0_pay5 (F := Ideal) ve wq bq wk bk) (k0_pay6 (F := Ideal) ve wq bq wk bk) k0_pay7
      = struckV (k0_pay2 ve wq bq wk bk) 2 := by rw [pay9_eq, pay5_eq]; rfl
  rw [pay15_eq, pay14_eq, pay17_eq, pay13_eq, pay12_eq, pay11_eq, pay10_eq, pay8_eq, e2, pay5_eq, pay4_eq]
  generalize k0_pay2 (F := Ideal) ve wq bq wk bk = sim
  rfl

open Classical in
/-- Choosing by the mask of the eight rounds is choosing by "picked". -/
theorem select_mask8 (n m : Fin 512) (a b : EReal) :
    Scalar.select (maskV s 8 (ix2 n m)) a b = if Picked (fun m => s (ix2 n m)) m then a else b := by
  have h : maskV s 8 (ix2 n m) = 1#1 ↔ Picked (fun m => s (ix2 n m)) m := maskV_apply s 8 n m
  by_cases hp : Picked (fun m => s (ix2 n m)) m
  · rw [if_pos hp, h.mpr hp]; rfl
  · rw [if_neg hp]
    exact if_neg (mt h.mp hp)

/-- The exponent of the kernel's softmax at an entry: the entry less the greatest picked entry, over one. -/
theorem pay18_apply (v179 : FVec Ideal S512x512 .f32) (v189 v190 : IVec S512x512 1) (v191 : FVec Ideal S512x512 .f32)
    (hm : k0_pay17 (F := Ideal) placeV v179 v189 v190 v191 = maskV s 8) (n m : Fin 512) :
    k0_pay18 (F := Ideal) placeV s v179 v189 v190 v191 (ix2 n m)
      = s (ix2 n m) - topVal fun m => s (ix2 n m) := by
  pointwise [k0_pay18]
  rw [hm, div_one']
  unfold topVal
  rw [negInf]
  simp only [mask_eq, select_mask8]

/-- THE KERNEL'S WEIGHTS: the block it normalises holds each row's weights. -/
theorem pay19_apply (e : FVec Ideal S512x512 .f32)
    (he : ∀ n m : Fin 512, e (ix2 n m) = s (ix2 n m) - topVal fun m => s (ix2 n m)) (n m : Fin 512) :
    k0_pay19 (F := Ideal) (maskV s 8) e (ix2 n m) = weight (fun m => s (ix2 n m)) m := by
  have hn : ∀ m : Fin 512, Scalar.select (maskV s 8 (ix2 n m)) (Ideal.exp (e (ix2 n m))) 0 = numer (fun m => s (ix2 n m)) m := by
    intro m
    rw [select_mask8, he]
    rfl
  pointwise [k0_pay19]
  simp only [hn]
  rfl

end Cert.Router
-- ==== Proof.KernelBody.lean ====
/- What the kernel's body computes for one batch, from the arguments' entries. -/
module

public import proofs.«01_k».proof.Proof.SpecFinite
public import proofs.«01_k».proof.Proof.KernelRouter

@[expose] public section

set_option maxRecDepth 16384

noncomputable section

namespace Cert.Router

open Idealize.ShloMosaic Idealize.ShloMosaic.TcCoe Idealize.SL.Sem
open Cert.KernelIdeal Cert.KernelIdeal.Gen

variable (A : Args) (b : Fin 8)

/-- The input's batch as a matrix. -/
theorem pay22_apply (x0 : FVec Ideal S1x1024x512 .f32) (hx : ∀ (l : Fin 1024) (n : Fin 512), x0 (ix3 0 l n) = A.x b l n)
    (l : Fin 1024) (n : Fin 512) : k0_pay22 (F := Ideal) x0 (ix2 l n) = A.x b l n := by
  pointwise [k0_pay22, hx]

/-- The center path's first layer. -/
theorem pay23_apply (x0 : FVec Ideal S1x1024x512 .f32) (ws : FVec Ideal S1x512 .f32) (bs : FVec Ideal S1x1 .f32)
    (wc1 : FVec Ideal S64x512 .f32) (bc1 : FVec Ideal S1x64 .f32)
    (hx : ∀ (l : Fin 1024) (n : Fin 512), x0 (ix3 0 l n) = A.x b l n) (hws : ∀ n : Fin 512, ws (ix2 0 n) = A.ws n)
    (hbs : bs (ix2 0 0) = A.bs) (hwc1 : ∀ (d : Fin 64) (n : Fin 512), wc1 (ix2 d n) = A.wc1 d n)
    (hbc1 : ∀ d : Fin 64, bc1 (ix2 0 d) = A.bc1 d) (d : Fin 64) :
    k0_pay23 (F := Ideal) x0 ws bs wc1 bc1 (ix2 0 d) = A.hid1 b d := by
  pointwise [k0_pay23, k0_pay22, hx, hws, hbs, hwc1, hbc1]
  have e : ∀ v : EReal, (FloatOps.erf (F := Ideal) (φ := .f32) v : EReal) = Ideal.erf v := fun _ => rfl
  simp only [e, gelu_eq, negInf]
  unfold Args.hid1
  congr 2
  refine Finset.sum_congr rfl fun n _ => congrArg (· * A.wc1 d n) (Finset.sum_congr rfl fun l _ => ?_)
  rw [mul_comm]
  have hs : ∀ l, ∑ n, A.ws n * A.x b l n + A.bs = A.score b l := fun l => by
    unfold Args.score
    congr 1
    exact Finset.sum_congr rfl fun n _ => mul_comm _ _
  simp only [hs]
  rfl

/-- The gated blend of the routed mixture and the center path. -/
theorem pay24_apply (h : A.Finite) (x4 : FVec Ideal S1024x512 .f32) (h1 : FVec Ideal S1x64 .f32) (wc2 : FVec Ideal S64x64 .f32) (bc2 : FVec Ideal S1x64 .f32) (wcn : FVec Ideal S512x64 .f32) (bcn : FVec Ideal S1x512 .f32) (wg2 : FVec Ideal S512x512 .f32) (bg : FVec Ideal S1x512 .f32) (s : FVec Ideal S512x512 .bf16) (wgs : FVec Ideal S512x512 .bf16)
    (hx : ∀ (l : Fin 1024) (n : Fin 512), x4 (ix2 l n) = A.x b l n) (hh : ∀ d : Fin 64, h1 (ix2 0 d) = A.hid1 b d)
    (hwc2 : ∀ (d e : Fin 64), wc2 (ix2 d e) = A.wc2 d e)
    (hbc2 : ∀ d : Fin 64, bc2 (ix2 0 d) = A.bc2 d)
    (hwcn : ∀ (n : Fin 512) (e : Fin 64), wcn (ix2 n e) = A.wcn n e)
    (hbcn : ∀ d : Fin 512, bcn (ix2 0 d) = A.bcn d)
    (hwg2 : ∀ (n i : Fin 512), wg2 (ix2 n i) = A.wg2 n i)
    (hbg : ∀ d : Fin 512, bg (ix2 0 d) = A.bg d)
    (hs : ∀ (n i : Fin 512), s (ix2 n i) = weight (A.sim n) i)
    (hwgs : ∀ (n m : Fin 512), wgs (ix2 n m) = ∑ i, A.wg1 n i * weight (A.sim i) m)
 (l : Fin 1024) (n : Fin 512) :
    k0_pay24 (F := Ideal) x4 h1 wc2 bc2 wcn bcn wg2 bg s wgs (ix2 l n) = A.fused b l n := by
  pointwise [k0_pay24, hx, hh, hwc2, hbc2, hwcn, hbcn, hwg2, hbg, hs, hwgs]
  have e : ∀ v : EReal, (FloatOps.erf (F := Ideal) (φ := .f32) v : EReal) = Ideal.erf v := fun _ => rfl
  have hcv : ∀ n : Fin 512, ∑ d, gelu (∑ j, A.hid1 b j * A.wc2 d j + A.bc2 d) * A.wcn n d + A.bcn n = A.cv b n := fun _ => rfl
  simp only [e, gelu_eq, hcv, Args.gate_first h]
  rw [show ∑ m, A.x b l m * weight (A.sim n) m = A.ring b l n from rfl, ← add_assoc]
  exact blend (Args.isFin_cv h b n) (Args.isFin_ring h b l n) (isFin_sigmoid_any _)

/-- The projection, the residual and the normalisation. -/
theorem pay1_apply (x4 : FVec Ideal S1024x512 .f32) (f : FVec Ideal S1024x512 .bf16) (wf : FVec Ideal S512x512 .bf16) (bf lnw lnb : FVec Ideal S1x512 .f32)
    (hx : ∀ (l : Fin 1024) (n : Fin 512), x4 (ix2 l n) = A.x b l n)
    (hf : ∀ (l : Fin 1024) (n : Fin 512), f (ix2 l n) = A.fused b l n)
    (hwf : ∀ (n i : Fin 512), wf (ix2 n i) = A.wf n i)
    (hbf : ∀ d : Fin 512, bf (ix2 0 d) = A.bf d)
    (hlnw : ∀ d : Fin 512, lnw (ix2 0 d) = A.lnw d)
    (hlnb : ∀ d : Fin 512, lnb (ix2 0 d) = A.lnb d)
 (l : Fin 1024) (n : Fin 512) :
    k0_pay1 (F := Ideal) x4 f wf bf lnw lnb (ix3 0 l n) = A.out b l n := by
  pointwise [k0_pay1, hx, hf, hwf, hbf, hlnw, hlnb]
  rfl

/-! ## The router, run at the first point only -/

variable (ve : FVec Ideal S512x16 .f32) (wq : FVec Ideal S16x16 .f32) (bq : FVec Ideal S1x16 .f32) (wk : FVec Ideal S16x16 .f32)
  (bk : FVec Ideal S1x16 .f32) (hve : ∀ (n : Fin 512) (k : Fin 16), ve (ix2 n k) = A.ve n k)
  (hwq : ∀ (n : Fin 16) (k : Fin 16), wq (ix2 n k) = A.wq n k) (hbq : ∀ k : Fin 16, bq (ix2 0 k) = A.bq k)
  (hwk : ∀ (n : Fin 16) (k : Fin 16), wk (ix2 n k) = A.wk n k) (hbk : ∀ k : Fin 16, bk (ix2 0 k) = A.bk k)
include hve hwq hbq hwk hbk

/-- The similarity block, the diagonal masked. -/
theorem pay2_apply (n m : Fin 512) : k0_pay2 (F := Ideal) ve wq bq wk bk (ix2 n m) = A.sim n m := by
  pointwise [k0_pay2, hve, hwq, hbq, hwk, hbk]
  unfold Args.sim
  rw [cmpi_place]
  by_cases h : n = m
  · rw [if_pos h, if_pos h]; rfl
  · rw [if_neg h, if_neg h]; rfl

/-- The block the first point normalises holds the router's weights. -/
theorem pay19_body (n m : Fin 512) :
    k0_pay19 (F := Ideal)
      (k0_pay17 (F := Ideal) placeV
        (k0_pay13 placeV (k0_pay5 (F := Ideal) ve wq bq wk bk) (k0_pay6 (F := Ideal) ve wq bq wk bk) k0_pay7)
        (k0_pay14 placeV (k0_pay5 (F := Ideal) ve wq bq wk bk) (k0_pay6 (F := Ideal) ve wq bq wk bk) k0_pay7)
        (k0_pay15 placeV (k0_pay4 (F := Ideal) ve wq bq wk bk) (k0_pay5 (F := Ideal) ve wq bq wk bk) (k0_pay6 (F := Ideal) ve wq bq wk bk) k0_pay7) k0_pay16)
      (k0_pay18 (F := Ideal) placeV (k0_pay2 (F := Ideal) ve wq bq wk bk)
        (k0_pay13 placeV (k0_pay5 (F := Ideal) ve wq bq wk bk) (k0_pay6 (F := Ideal) ve wq bq wk bk) k0_pay7)
        (k0_pay14 placeV (k0_pay5 (F := Ideal) ve wq bq wk bk) (k0_pay6 (F := Ideal) ve wq bq wk bk) k0_pay7)
        (k0_pay15 placeV (k0_pay4 (F := Ideal) ve wq bq wk bk) (k0_pay5 (F := Ideal) ve wq bq wk bk) (k0_pay6 (F := Ideal) ve wq bq wk bk) k0_pay7) k0_pay16)
      (ix2 n m) = weight (A.sim n) m := by
  have hm := mask8_eq ve wq bq wk bk
  rw [hm, pay19_apply _ _ fun n m => pay18_apply _ _ _ _ _ hm n m]
  congr 1
  funext k
  exact pay2_apply A ve wq bq wk bk hve hwq hbq hwk hbk n k

omit hve hwq hbq hwk hbk in
/-- What the first point keeps of the normalised block. -/
theorem pay20_apply (mk : IVec S512x512 1) (e : FVec Ideal S512x512 .f32) (f : Fin 512 → Fin 512 → EReal)
    (h : ∀ n m : Fin 512, k0_pay19 (F := Ideal) mk e (ix2 n m) = f n m) (n m : Fin 512) :
    k0_pay20 (F := Ideal) mk e (ix2 n m) = f n m := by
  pointwise [k0_pay20, h]

omit hve hwq hbq hwk hbk in
/-- What the first point keeps of the gate's first half times the normalised block. -/
theorem pay21_apply (mk : IVec S512x512 1) (e : FVec Ideal S512x512 .f32) (f : Fin 512 → Fin 512 → EReal) (wg1 : FVec Ideal S512x512 .f32)
    (h : ∀ n m : Fin 512, k0_pay19 (F := Ideal) mk e (ix2 n m) = f n m)
    (hw : ∀ n i : Fin 512, wg1 (ix2 n i) = A.wg1 n i) (n m : Fin 512) :
    k0_pay21 (F := Ideal) mk e wg1 (ix2 n m) = ∑ i, A.wg1 n i * f i m := by
  pointwise [k0_pay21, h, hw]

end Cert.Router
-- ==== Proof.KernelArray.lean ====
/- The blocks the kernel reads, by the arguments' entries. -/
module

public import proofs.«01_k».proof.Proof.KernelBody
public import proofs.«01_k».proof.Proof.Gen.KernelIdeal.Value
public import Idealize.ShloMosaic.Lib.Pipeline.ValueKit
public import Idealize.ShloMosaic.Lib.Claim

@[expose] public section

set_option maxRecDepth 16384

noncomputable section

namespace Cert.Router

open Idealize.ShloMosaic Idealize.ShloMosaic.TcCoe Idealize.SL.Sem
open Cert.KernelIdeal Cert.KernelIdeal.Gen

variable (m : (ℓ : Loc nD τ sig) → Buf (Elt Ideal) ℓ) (c : Dev nD)

/-- The arguments' entries in memory `m`. -/
def argsOf : Args where
  x b l n := (m ((c : Thread nD τ).loc main_arg0) : FVec Ideal S8x1024x512 .f32) (ix3 b l n)
  ve n k := (m ((c : Thread nD τ).loc main_arg1) : FVec Ideal S1x512x16 .f32) (ix3 0 n k)
  wq n k := (m ((c : Thread nD τ).loc main_arg2) : FVec Ideal S16x16 .f32) (ix2 n k)
  bq n := (m ((c : Thread nD τ).loc main_arg3) : FVec Ideal S16 .f32) (ix1 n)
  wk n k := (m ((c : Thread nD τ).loc main_arg4) : FVec Ideal S16x16 .f32) (ix2 n k)
  bk n := (m ((c : Thread nD τ).loc main_arg5) : FVec Ideal S16 .f32) (ix1 n)
  ws n := (m ((c : Thread nD τ).loc main_arg6) : FVec Ideal S1x512 .f32) (ix2 0 n)
  bs := (m ((c : Thread nD τ).loc main_arg7) : FVec Ideal S1 .f32) (ix1 0)
  wc1 n k := (m ((c : Thread nD τ).loc main_arg8) : FVec Ideal S64x512 .f32) (ix2 n k)
  bc1 n := (m ((c : Thread nD τ).loc main_arg9) : FVec Ideal S64 .f32) (ix1 n)
  wc2 n k := (m ((c : Thread nD τ).loc main_arg10) : FVec Ideal S64x64 .f32) (ix2 n k)
  bc2 n := (m ((c : Thread nD τ).loc main_arg11) : FVec Ideal S64 .f32) (ix1 n)
  wcn n k := (m ((c : Thread nD τ).loc main_arg12) : FVec Ideal S512x64 .f32) (ix2 n k)
  bcn n := (m ((c : Thread nD τ).loc main_arg13) : FVec Ideal S512 .f32) (ix1 n)
  wg n k := (m ((c : Thread nD τ).loc main_arg14) : FVec Ideal S512x1024 .f32) (ix2 n k)
  bg n := (m ((c : Thread nD τ).loc main_arg15) : FVec Ideal S512 .f32) (ix1 n)
  wf n k := (m ((c : Thread nD τ).loc main_arg16) : FVec Ideal S512x512 .f32) (ix2 n k)
  bf n := (m ((c : Thread nD τ).loc main_arg17) : FVec Ideal S512 .f32) (ix1 n)
  lnw n := (m ((c : Thread nD τ).loc main_arg18) : FVec Ideal S512 .f32) (ix1 n)
  lnb n := (m ((c : Thread nD τ).loc main_arg19) : FVec Ideal S512 .f32) (ix1 n)

/-- Blocks `x0 … x20` hold, for batch `b`, the arguments' entries. -/
structure Blocks (A : Args) (b : Fin 8)
    (x0 : FVec Ideal S1x1024x512 .f32) (x1 : FVec Ideal S512x16 .f32) (x2 : FVec Ideal S16x16 .f32) (x3 : FVec Ideal S1x16 .f32)
    (x4 : FVec Ideal S16x16 .f32) (x5 : FVec Ideal S1x16 .f32) (x6 : FVec Ideal S1x512 .f32) (x7 : FVec Ideal S1x1 .f32)
    (x8 : FVec Ideal S64x512 .f32) (x9 : FVec Ideal S1x64 .f32) (x10 : FVec Ideal S64x64 .f32) (x11 : FVec Ideal S1x64 .f32)
    (x12 : FVec Ideal S512x64 .f32) (x13 : FVec Ideal S1x512 .f32) (x14 : FVec Ideal S512x512 .f32) (x15 : FVec Ideal S1x512 .f32)
    (x16 : FVec Ideal S512x512 .f32) (x17 : FVec Ideal S512x512 .bf16) (x18 : FVec Ideal S1x512 .f32) (x19 : FVec Ideal S1x512 .f32)
    (x20 : FVec Ideal S1x512 .f32) : Prop where
  hx : ∀ (l : Fin 1024) (n : Fin 512), x0 (ix3 0 l n) = A.x b l n
  hve : ∀ (n : Fin 512) (k : Fin 16), x1 (ix2 n k) = A.ve n k
  hwq : ∀ (n : Fin 16) (k : Fin 16), x2 (ix2 n k) = A.wq n k
  hbq : ∀ n : Fin 16, x3 (ix2 0 n) = A.bq n
  hwk : ∀ (n : Fin 16) (k : Fin 16), x4 (ix2 n k) = A.wk n k
  hbk : ∀ n : Fin 16, x5 (ix2 0 n) = A.bk n
  hws : ∀ n : Fin 512, x6 (ix2 0 n) = A.ws n
  hbs : x7 (ix2 0 0) = A.bs
  hwc1 : ∀ (n : Fin 64) (k : Fin 512), x8 (ix2 n k) = A.wc1 n k
  hbc1 : ∀ n : Fin 64, x9 (ix2 0 n) = A.bc1 n
  hwc2 : ∀ (n : Fin 64) (k : Fin 64), x10 (ix2 n k) = A.wc2 n k
  hbc2 : ∀ n : Fin 64, x11 (ix2 0 n) = A.bc2 n
  hwcn : ∀ (n : Fin 512) (k : Fin 64), x12 (ix2 n k) = A.wcn n k
  hbcn : ∀ n : Fin 512, x13 (ix2 0 n) = A.bcn n
  hwg2 : ∀ (n : Fin 512) (k : Fin 512), x14 (ix2 n k) = A.wg2 n k
  hbg : ∀ n : Fin 512, x15 (ix2 0 n) = A.bg n
  hwg1 : ∀ (n : Fin 512) (k : Fin 512), x16 (ix2 n k) = A.wg1 n k
  hwf : ∀ (n : Fin 512) (k : Fin 512), x17 (ix2 n k) = A.wf n k
  hbf : ∀ n : Fin 512, x18 (ix2 0 n) = A.bf n
  hlnw : ∀ n : Fin 512, x19 (ix2 0 n) = A.lnw n
  hlnb : ∀ n : Fin 512, x20 (ix2 0 n) = A.lnb n

/-- The blocks' positions at a grid point: the input and result batch is the point's, every other block is its whole array. -/
theorem idxs : ∀ t : Fin cfg0.N, win0_0.index t = ![t.val, 0, 0] ∧ win0_1.index t = ![0, 0] ∧ win0_2.index t = ![0, 0] ∧ win0_3.index t = ![0, 0] ∧ win0_4.index t = ![0, 0] ∧
    win0_5.index t = ![0, 0] ∧ win0_6.index t = ![0, 0] ∧ win0_7.index t = ![0, 0] ∧ win0_8.index t = ![0, 0] ∧ win0_9.index t = ![0, 0] ∧
    win0_10.index t = ![0, 0] ∧ win0_11.index t = ![0, 0] ∧ win0_12.index t = ![0, 0] ∧ win0_13.index t = ![0, 0] ∧ win0_14.index t = ![0, 0] ∧
    win0_15.index t = ![0, 0] ∧ win0_16.index t = ![0, 0] ∧ win0_17.index t = ![0, 0] ∧ win0_18.index t = ![0, 0] ∧ win0_19.index t = ![0, 0] ∧ win0_20.index t = ![0, 0] :=
  (by decide +kernel : ∀ t : Fin grid0.N, _)

/-- What the kernel's windows read at point `t`. -/
theorem blocks (t : Fin cfg0.N) (b : Fin 8) (hb : t.val = b.val) : Blocks (argsOf m c) b
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) := by
  constructor
  · intro l n
    show _ = (m ((c : Thread nD τ).loc main_arg0) : FVec Ideal S8x1024x512 .f32) (ix3 b l n)
    blk_point [iblk, V, (idxs t).1]
  · intro n k
    show _ = (m ((c : Thread nD τ).loc main_arg1) : FVec Ideal S1x512x16 .f32) (ix3 0 n k)
    blk_point [iblk, V, (idxs t).2.1]
  · intro n k
    show _ = (m ((c : Thread nD τ).loc main_arg2) : FVec Ideal S16x16 .f32) (ix2 n k)
    blk_point [iblk, V, (idxs t).2.2.1]
  · intro n
    show _ = (m ((c : Thread nD τ).loc main_arg3) : FVec Ideal S16 .f32) (ix1 n)
    blk_point [iblk, V, (idxs t).2.2.2.1]
  · intro n k
    show _ = (m ((c : Thread nD τ).loc main_arg4) : FVec Ideal S16x16 .f32) (ix2 n k)
    blk_point [iblk, V, (idxs t).2.2.2.2.1]
  · intro n
    show _ = (m ((c : Thread nD τ).loc main_arg5) : FVec Ideal S16 .f32) (ix1 n)
    blk_point [iblk, V, (idxs t).2.2.2.2.2.1]
  · intro n
    show _ = (m ((c : Thread nD τ).loc main_arg6) : FVec Ideal S1x512 .f32) (ix2 0 n)
    blk_point [iblk, V, (idxs t).2.2.2.2.2.2.1]
  · show _ = (m ((c : Thread nD τ).loc main_arg7) : FVec Ideal S1 .f32) (ix1 0)
    blk_point [iblk, V, (idxs t).2.2.2.2.2.2.2.1]
  · intro n k
    show _ = (m ((c : Thread nD τ).loc main_arg8) : FVec Ideal S64x512 .f32) (ix2 n k)
    blk_point [iblk, V, (idxs t).2.2.2.2.2.2.2.2.1]
  · intro n
    show _ = (m ((c : Thread nD τ).loc main_arg9) : FVec Ideal S64 .f32) (ix1 n)
    blk_point [iblk, V, (idxs t).2.2.2.2.2.2.2.2.2.1]
  · intro n k
    show _ = (m ((c : Thread nD τ).loc main_arg10) : FVec Ideal S64x64 .f32) (ix2 n k)
    blk_point [iblk, V, (idxs t).2.2.2.2.2.2.2.2.2.2.1]
  · intro n
    show _ = (m ((c : Thread nD τ).loc main_arg11) : FVec Ideal S64 .f32) (ix1 n)
    blk_point [iblk, V, (idxs t).2.2.2.2.2.2.2.2.2.2.2.1]
  · intro n k
    show _ = (m ((c : Thread nD τ).loc main_arg12) : FVec Ideal S512x64 .f32) (ix2 n k)
    blk_point [iblk, V, (idxs t).2.2.2.2.2.2.2.2.2.2.2.2.1]
  · intro n
    show _ = (m ((c : Thread nD τ).loc main_arg13) : FVec Ideal S512 .f32) (ix1 n)
    blk_point [iblk, V, (idxs t).2.2.2.2.2.2.2.2.2.2.2.2.2.1]
  · intro n k
    show _ = (m ((c : Thread nD τ).loc main_arg14) : FVec Ideal S512x1024 .f32) (ix2 n ⟨512 + k.val, by omega⟩)
    blk_simp [iblk]
    entry_read
    show (extractStridedSlice S512x512 ![0, 512] (m ((c : Thread nD τ).loc main_arg14)) slices_S512x1024_S512x512_0_512 : FVec Ideal S512x512 .f32) _ = _
    pointwise
    blk_ext [(idxs t).2.2.2.2.2.2.2.2.2.2.2.2.2.2.1]
  · intro n
    show _ = (m ((c : Thread nD τ).loc main_arg15) : FVec Ideal S512 .f32) (ix1 n)
    blk_point [iblk, V, (idxs t).2.2.2.2.2.2.2.2.2.2.2.2.2.2.2.1]
  · intro n k
    show _ = (m ((c : Thread nD τ).loc main_arg14) : FVec Ideal S512x1024 .f32) (ix2 n ⟨k.val, by omega⟩)
    blk_simp [iblk]
    entry_read
    show (extractStridedSlice S512x512 ![0, 0] (m ((c : Thread nD τ).loc main_arg14)) slices_S512x1024_S512x512_0_0 : FVec Ideal S512x512 .f32) _ = _
    pointwise
    blk_ext [(idxs t).2.2.2.2.2.2.2.2.2.2.2.2.2.2.2.2.1]
  · intro n k
    show _ = (m ((c : Thread nD τ).loc main_arg16) : FVec Ideal S512x512 .f32) (ix2 n k)
    blk_simp [iblk]
    entry_read
    show (truncf .bf16 (m ((c : Thread nD τ).loc main_arg16) : FVec Ideal S512x512 .f32) bitsLt_bf16_f32 : FVec Ideal S512x512 .bf16) _ = _
    pointwise
    blk_ext [(idxs t).2.2.2.2.2.2.2.2.2.2.2.2.2.2.2.2.2.1]
  · intro n
    show _ = (m ((c : Thread nD τ).loc main_arg17) : FVec Ideal S512 .f32) (ix1 n)
    blk_point [iblk, V, (idxs t).2.2.2.2.2.2.2.2.2.2.2.2.2.2.2.2.2.2.1]
  · intro n
    show _ = (m ((c : Thread nD τ).loc main_arg18) : FVec Ideal S512 .f32) (ix1 n)
    blk_point [iblk, V, (idxs t).2.2.2.2.2.2.2.2.2.2.2.2.2.2.2.2.2.2.2.1]
  · intro n
    show _ = (m ((c : Thread nD τ).loc main_arg19) : FVec Ideal S512 .f32) (ix1 n)
    blk_point [iblk, V, (idxs t).2.2.2.2.2.2.2.2.2.2.2.2.2.2.2.2.2.2.2.2]

end Cert.Router
-- ==== Proof.KernelFold.lean ====
/- What the kernel's result array ends holding: a fold over the batches, the router carried between them. -/
module

public import proofs.«01_k».proof.Proof.KernelArray
public import Idealize.ShloMosaic.Lib.Pipeline.ReadBack

@[expose] public section

set_option maxRecDepth 16384

noncomputable section

namespace Cert.Router

open Idealize.ShloMosaic Idealize.ShloMosaic.TcCoe Idealize.SL.Sem
open Cert.KernelIdeal Cert.KernelIdeal.Gen Cert.KernelIdeal.Value

/-- What a grid point leaves: its batch of the result, and the two carried blocks (the router's weights, and the gate's
    first half times them). -/
structure Holds (A : Args) (b : Fin 8) (r : Vec Ideal S1x1024x512 .f32 × Vec Ideal S512x512 .bf16 × Vec Ideal S512x512 .bf16) : Prop where
  out : ∀ (l : Fin 1024) (n : Fin 512), r.1 (ix3 0 l n) = A.out b l n
  s : ∀ n k : Fin 512, r.2.1 (ix2 n k) = weight (A.sim n) k
  w : ∀ n k : Fin 512, r.2.2 (ix2 n k) = ∑ i, A.wg1 n i * weight (A.sim i) k

variable (m : (ℓ : Loc nD τ sig) → Buf (Elt Ideal) ℓ) (c : Dev nD) (h : (argsOf m c).Finite)
include h

/-- A later point keeps the carried blocks and writes its batch. -/
theorem holds_B (t : Fin cfg0.N) (b : Fin 8) (hb : t.val = b.val) (h0 : ¬ t.val % 8 = 0) (acc) (b' : Fin 8)
    (ha : Holds (argsOf m c) b' acc) : Holds (argsOf m c) b (stAt0 m c t.val t.isLt acc) := by
  have B := blocks m c t b hb
  rw [stAt0_B m c t acc h0]
  refine ⟨fun l n => ?_, fun n k => ha.s n k, fun n k => ha.w n k⟩
  dsimp only
  frame_out
  rw [read_unread_whole, read_unread_whole]
  exact pay1_apply _ b _ _ _ _ _ _ (pay22_apply _ b _ B.hx)
    (pay24_apply _ b h _ _ _ _ _ _ _ _ _ _ (pay22_apply _ b _ B.hx)
      (pay23_apply _ b _ _ _ _ _ B.hx B.hws B.hbs B.hwc1 B.hbc1) B.hwc2 B.hbc2 B.hwcn B.hbcn B.hwg2 B.hbg ha.s ha.w)
    B.hwf B.hbf B.hlnw B.hlnb l n

/-- The first point fills the carried blocks and writes the first batch. -/
theorem holds_A (t : Fin cfg0.N) (b : Fin 8) (hb : t.val = b.val) (h0 : t.val % 8 = 0) (acc) :
    Holds (argsOf m c) b (stAt0 m c t.val t.isLt acc) := by
  have B := blocks m c t b hb
  have hw := pay19_body _ _ _ _ _ _ B.hve B.hwq B.hbq B.hwk B.hbk
  have h20 := pay20_apply _ _ _ hw
  have h21 := pay21_apply _ _ _ _ _ hw B.hwg1
  rw [stAt0_A m c t acc h0]
  refine ⟨fun l n => ?_, fun n k => ?_, fun n k => ?_⟩
  · dsimp only
    frame_out
    exact pay1_apply _ b _ _ _ _ _ _ (pay22_apply _ b _ B.hx)
      (pay24_apply _ b h _ _ _ _ _ _ _ _ _ _ (pay22_apply _ b _ B.hx)
        (pay23_apply _ b _ _ _ _ _ B.hx B.hws B.hbs B.hwc1 B.hbc1) B.hwc2 B.hbc2 B.hwcn B.hbcn B.hwg2 B.hbg h20 h21)
      B.hwf B.hbf B.hlnw B.hlnb l n
  · dsimp only
    frame_out
    exact h20 n k
  · dsimp only
    frame_out
    exact h21 n k

/-- Every point leaves its batch. -/
theorem holds_accAt : ∀ (n : ℕ) (hn : 0 + n < cfg0.N) (b : Fin 8), n = b.val →
    Holds (argsOf m c) b (Idealize.ShloMosaic.Pipeline.accAt (fun n h => stAt0 m c n h junk0) (stAt0 m c) 0 n hn)
  | 0, hn, b, hb => holds_A m c h ⟨0, by omega⟩ b hb rfl _
  | n + 1, hn, b, hb => by
    have hN : cfg0.N = 8 := N_0
    have ih := holds_accAt n (by omega) ⟨n, by omega⟩ rfl
    rw [Idealize.ShloMosaic.Pipeline.accAt_succ]
    have e : 0 + n + 1 = n + 1 := by omega
    have := holds_B m c h ⟨n + 1, by omega⟩ b hb (by show ¬ (n + 1) % 8 = 0; omega) _ _ ih
    convert this using 2
    exact Nat.zero_add _

/-- THE KERNEL'S RESULT at an entry. -/
theorem G21_apply (b : Fin 8) (l : Fin 1024) (n : Fin 512) :
    (G21 m c : FVec Ideal S8x1024x512 .f32) (ix3 b l n) = (argsOf m c).out b l n := by
  have hN : cfg0.N = 8 := N_0
  have hp : pt21Of (ix3 b l n) = b.val := by
    show 1 * (b.val / 1 - 0) + 1 * (l.val / 1024 - 0) + 1 * (n.val / 512 - 0) = b.val
    have := l.isLt; have := n.isLt
    omega
  have hl : loc21Of (ix3 b l n) = ix3 0 l n := by
    funext a
    match a with
    | ⟨0, _⟩ => exact Fin.ext (Nat.mod_one _)
    | ⟨1, _⟩ => exact Fin.ext (Nat.mod_eq_of_lt l.isLt)
    | ⟨2, _⟩ => exact Fin.ext (Nat.mod_eq_of_lt n.isLt)
  have hlt : pt21Of (ix3 b l n) < cfg0.N := by rw [hp, hN]; exact b.isLt
  show (G21 m c) (ix3 b l n) = _
  unfold G21
  rw [dif_pos hlt, hl]
  exact (holds_accAt m c h _ _ b hp).out l n

end Cert.Router
-- ==== Proof.RefTopK.lean ====
/- The reference's sort-based router: the sorted positions are the picked places, and the gather reads them. -/
module

public import proofs.«01_k».proof.Proof.TopRounds
public import proofs.«01_k».proof.Proof.Gen.ReferenceIdeal.Run
public import Idealize.ShloMosaic.Lib.Pointwise

@[expose] public section

set_option maxRecDepth 16384

noncomputable section

namespace Cert.Router

open Idealize.ShloMosaic Idealize.ShloMosaic.TcCoe Idealize.SL.Sem
open Cert.ReferenceIdeal

/-- The total order's "greater" on extended reals. -/
theorem cmpTotal_gt (a b : EReal) : ((FloatOps.cmpfTotal (F := Ideal) (φ := .f32) .gt a b : BitVec 1) == 1#1) = decide (b < a) := by
  show (BitVec.ofBool (decide (b < a)) == 1#1) = _
  by_cases h : b < a <;> simp [h]

/-- Replacing an index's last coordinate. -/
theorem along_last (b : Fin 8) (n m k : Fin 512) (h : 2 < S8x512x512.rank) :
    (ix3 b n m : S8x512x512.Idx).along ⟨2, h⟩ k = ix3 b n k := by
  funext a
  match a with
  | ⟨0, _⟩ => rfl
  | ⟨1, _⟩ => rfl
  | ⟨2, _⟩ => rfl

/-- A two-operand sort along the last axis, read at an entry. -/
theorem sort2_apply {α β : Type} (cmp : α × β → α × β → BitVec 1) (x : S8x512x512.Idx → α) (y : S8x512x512.Idx → β)
    (b : Fin 8) (n k : Fin 512) :
    (Host.sort2 S8x512x512 2 cmp x y).1 (ix3 b n k)
        = x (ix3 b n (sortedFrom (fun p q => cmp (x (ix3 b n p), y (ix3 b n p)) (x (ix3 b n q), y (ix3 b n q)) == 1#1) k))
      ∧ (Host.sort2 S8x512x512 2 cmp x y).2 (ix3 b n k)
        = y (ix3 b n (sortedFrom (fun p q => cmp (x (ix3 b n p), y (ix3 b n p)) (x (ix3 b n q), y (ix3 b n q)) == 1#1) k)) := by
  have h2 : 2 < S8x512x512.rank := by decide
  have e : ∀ p : Fin 512, (ix3 b n k : S8x512x512.Idx).along ⟨2, h2⟩ p = ix3 b n p := fun p => along_last b n k p h2
  have e' : (fun p q : Fin 512 => cmp (x ((ix3 b n k : S8x512x512.Idx).along ⟨2, h2⟩ p), y ((ix3 b n k : S8x512x512.Idx).along ⟨2, h2⟩ p))
      (x ((ix3 b n k : S8x512x512.Idx).along ⟨2, h2⟩ q), y ((ix3 b n k : S8x512x512.Idx).along ⟨2, h2⟩ q)) == 1#1)
      = fun p q => cmp (x (ix3 b n p), y (ix3 b n p)) (x (ix3 b n q), y (ix3 b n q)) == 1#1 := by
    funext p q
    rw [e p, e q]
  unfold Host.sort2
  rw [dif_pos h2]
  constructor
  · refine (congrArg x (e _)).trans ?_
    exact congrArg (fun f => x (ix3 b n (sortedFrom f k))) e'
  · refine (congrArg y (e _)).trans ?_
    exact congrArg (fun f => y (ix3 b n (sortedFrom f k))) e'

/-- The first eight of a row of 512, read at an entry. -/
theorem slice8_apply {α : Type} (x : S8x512x512.Idx → α) (hfit : S8x512x512.Slices (fun _ => 0) S8x512x8)
    (b : Fin 8) (n : Fin 512) (k : Fin 8) :
    extractStridedSlice S8x512x8 (fun _ => 0) x hfit (ix3 b n k) = x (ix3 b n (k.castLE (by decide : 8 ≤ 512))) := by
  refine congrArg x ?_
  funext a
  match a with
  | ⟨0, _⟩ => exact Fin.ext (Nat.zero_add _)
  | ⟨1, _⟩ => exact Fin.ext (Nat.zero_add _)
  | ⟨2, _⟩ => exact Fin.ext (Nat.zero_add _)

variable (s : FVec Ideal S8x512x512 .f32) (hs : ∀ b n m, s (ix3 b n m) ≠ ⊥)
  (hfit : S8x512x512.Slices (fun _ => 0) S8x512x8)
include hs

/-- The greatest eight entries of a row, greatest first. -/
theorem topK_fst (b : Fin 8) (n : Fin 512) (k : Fin 8) :
    (Host.topK S8x512x8 2 (FloatOps.cmpfTotal (F := Ideal) (φ := .f32) .gt) s hfit).1 (ix3 b n k)
      = s (ix3 b n (pickAt (fun m => s (ix3 b n m)) k.val)) := by
  have e := sortedFrom_eq_pickAt (fun m => s (ix3 b n m)) (fun m => hs b n m) (by decide : 8 ≤ 512) k
  unfold Host.topK
  dsimp only
  refine (slice8_apply _ hfit b n k).trans ?_
  refine (sort2_apply _ s _ b n _).1.trans ?_
  simp only [cmpTotal_gt]
  rw [e]

/-- Their places, as words. -/
theorem topK_snd (b : Fin 8) (n : Fin 512) (k : Fin 8) :
    (Host.topK S8x512x8 2 (FloatOps.cmpfTotal (F := Ideal) (φ := .f32) .gt) s hfit).2 (ix3 b n k)
      = BitVec.ofNat 32 (pickAt (fun m => s (ix3 b n m)) k.val).val := by
  have e := sortedFrom_eq_pickAt (fun m => s (ix3 b n m)) (fun m => hs b n m) (by decide : 8 ≤ 512) k
  unfold Host.topK
  dsimp only
  refine (slice8_apply _ hfit b n k).trans ?_
  refine (sort2_apply _ s _ b n _).2.trans ?_
  rw [dif_pos (by decide : 2 < S8x512x512.rank)]
  simp only [cmpTotal_gt]
  rw [e]
  rfl

omit hs in
/-- The gather reads, at row `(b, n)` and slot `k`, the place its index word names. -/
theorem gather_apply (x : FVec Ideal S8x512x1024 .f32) (idx : IVec S8x512x8x1 32) (b : Fin 8) (n : Fin 512) (k : Fin 8) (l : Fin 1024)
    (p : Fin 512) (hp : idx (ix4 b n k 0) = BitVec.ofNat 32 p.val) :
    Host.gather gather_S8x512x1024_S8x512x8x1_S8x512x8x1024_3_1_0_0_1_3_111024 x idx (ix4 b n k l) = x (ix3 b p l) := by
  unfold Host.gather
  congr 1
  funext a
  refine Fin.ext ?_
  unfold GatherDims.operandIdx
  match a with
  | ⟨0, _⟩ => show 0 + b.val + 0 = b.val; omega
  | ⟨1, _⟩ =>
    have hi : gather_S8x512x1024_S8x512x8x1_S8x512x8x1024_3_1_0_0_1_3_111024.siIdx (ix4 b n k l) ⟨0, by decide⟩ = ix4 b n k 0 := by
      funext a
      match a with
      | ⟨0, _⟩ => rfl
      | ⟨1, _⟩ => rfl
      | ⟨2, _⟩ => rfl
      | ⟨3, _⟩ => rfl
    show min (idx (gather_S8x512x1024_S8x512x8x1_S8x512x8x1024_3_1_0_0_1_3_111024.siIdx (ix4 b n k l) ⟨0, by decide⟩)).toInt.toNat (512 - 1) + 0 + 0 = p.val
    rw [hi, hp, BitVec.toInt_eq_toNat_cond, BitVec.toNat_ofNat]
    have := p.isLt
    omega
  | ⟨2, _⟩ => show 0 + 0 + l.val = l.val; omega

end Cert.Router
-- ==== Proof.RefRouter.lean ====
/- The reference's router, read at an entry. -/
module

public import proofs.«01_k».proof.Proof.RefTopK
public import proofs.«01_k».proof.Proof.SpecFinite
public import proofs.«01_k».proof.Proof.KernelRounds

@[expose] public section

set_option maxRecDepth 16384

noncomputable section

namespace Cert.Router

open Idealize.ShloMosaic Idealize.ShloMosaic.TcCoe Idealize.SL.Sem
open Cert.ReferenceIdeal Cert.ReferenceIdeal.Gen Cert.ReferenceIdeal.Value

/-- The arguments' entries in a valuation of the reference's arrays. -/
def refArgs (V0 : Valuation τ sig (Elt Ideal)) : Args where
  x b l n := (V0 (Proc.devRef .tc main_arg0) : FVec Ideal S8x1024x512 .f32) (ix3 b l n)
  ve n k := (V0 (Proc.devRef .tc main_arg1) : FVec Ideal S1x512x16 .f32) (ix3 0 n k)
  wq n k := (V0 (Proc.devRef .tc main_arg2) : FVec Ideal S16x16 .f32) (ix2 n k)
  bq n := (V0 (Proc.devRef .tc main_arg3) : FVec Ideal S16 .f32) (ix1 n)
  wk n k := (V0 (Proc.devRef .tc main_arg4) : FVec Ideal S16x16 .f32) (ix2 n k)
  bk n := (V0 (Proc.devRef .tc main_arg5) : FVec Ideal S16 .f32) (ix1 n)
  ws n := (V0 (Proc.devRef .tc main_arg6) : FVec Ideal S1x512 .f32) (ix2 0 n)
  bs := (V0 (Proc.devRef .tc main_arg7) : FVec Ideal S1 .f32) (ix1 0)
  wc1 n k := (V0 (Proc.devRef .tc main_arg8) : FVec Ideal S64x512 .f32) (ix2 n k)
  bc1 n := (V0 (Proc.devRef .tc main_arg9) : FVec Ideal S64 .f32) (ix1 n)
  wc2 n k := (V0 (Proc.devRef .tc main_arg10) : FVec Ideal S64x64 .f32) (ix2 n k)
  bc2 n := (V0 (Proc.devRef .tc main_arg11) : FVec Ideal S64 .f32) (ix1 n)
  wcn n k := (V0 (Proc.devRef .tc main_arg12) : FVec Ideal S512x64 .f32) (ix2 n k)
  bcn n := (V0 (Proc.devRef .tc main_arg13) : FVec Ideal S512 .f32) (ix1 n)
  wg n k := (V0 (Proc.devRef .tc main_arg14) : FVec Ideal S512x1024 .f32) (ix2 n k)
  bg n := (V0 (Proc.devRef .tc main_arg15) : FVec Ideal S512 .f32) (ix1 n)
  wf n k := (V0 (Proc.devRef .tc main_arg16) : FVec Ideal S512x512 .f32) (ix2 n k)
  bf n := (V0 (Proc.devRef .tc main_arg17) : FVec Ideal S512 .f32) (ix1 n)
  lnw n := (V0 (Proc.devRef .tc main_arg18) : FVec Ideal S512 .f32) (ix1 n)
  lnb n := (V0 (Proc.devRef .tc main_arg19) : FVec Ideal S512 .f32) (ix1 n)

variable (V0 : Valuation τ sig (Elt Ideal))

/-- The similarity block, the diagonal masked. -/
theorem v18_apply (b : Fin 8) (n m : Fin 512) :
    (res_main_v18 V0 : FVec Ideal S8x512x512 .f32) (ix3 b n m) = (refArgs V0).sim n m := by
  pointwise [res_main_v18, res_main_v0]
  have e : IntOp.addi (BitVec.ofNat 32 n.val) 0#32 = BitVec.ofNat 32 n.val := BitVec.add_zero _
  rw [e, cmpi_place]
  unfold Args.sim
  by_cases h : n = m
  · rw [if_pos h, if_pos h]; rfl
  · rw [if_neg h, if_neg h]; rfl

/-- A maximum over the last axis is one over its places. -/
theorem fold_row (s : FVec Ideal S8x512x8 .f32) (b : Fin 8) (n : Fin 512) :
    Finset.fold max (⊥ : EReal) s {i | reducesTo_S8x512x8_S8x512_d2.drop i = ix2 b n}
      = Finset.univ.fold max ⊥ fun k => s (ix3 b n k) :=
  Shape.ReducesTo.fold_fiber_r3_a2 _ _ _ _ _

/-- A place below 512 is no negative word, so the reference's wrap-around leaves it. -/
theorem index_word (p : Fin 512) :
    Scalar.select (IntOp.cmpi CmpIPredicate.slt (BitVec.ofNat 32 p.val) 0#32) (IntOp.addi (BitVec.ofNat 32 p.val) 512#32)
      (BitVec.ofNat 32 p.val) = BitVec.ofNat 32 p.val := by
  have e : IntOp.cmpi CmpIPredicate.slt (BitVec.ofNat 32 p.val) 0#32 = 0#1 := by
    revert p
    decide +kernel
  rw [e]
  rfl

variable (h : (refArgs V0).Finite)
include h

/-- No similarity is minus infinity. -/
theorem v18_ne (b : Fin 8) (n m : Fin 512) : (res_main_v18 V0 : FVec Ideal S8x512x512 .f32) (ix3 b n m) ≠ (⊥ : EReal) := by
  rw [v18_apply]
  exact (Args.isFin_sim h n m).ne_bot

/-- The place of slot `k`, as a word. -/
theorem indices_apply (b : Fin 8) (n : Fin 512) (k : Fin 8) :
    (res_main_indices V0 : IVec S8x512x8 32) (ix3 b n k) = BitVec.ofNat 32 (pickAt ((refArgs V0).sim n) k.val).val := by
  refine (topK_snd _ (v18_ne V0 h) _ b n k).trans ?_
  simp only [v18_apply]

/-- The entry of slot `k`. -/
theorem v20_apply (b : Fin 8) (n : Fin 512) (k : Fin 8) :
    (res_main_v20 V0 : FVec Ideal S8x512x8 .f32) (ix3 b n k) = (refArgs V0).sim n (pickAt ((refArgs V0).sim n) k.val) := by
  have e := (topK_fst _ (v18_ne V0 h) sliceFits_S8x512x512_S8x512x8 b n k)
  simp only [v18_apply] at e
  pointwise [res_main_v20]
  exact (congrArg (Ideal.div · 1) e).trans (div_one' _)

/-- The exponential of slot `k`. -/
theorem v27_apply (b : Fin 8) (n : Fin 512) (k : Fin 8) :
    (res_main_v27 V0 : FVec Ideal S8x512x8 .f32) (ix3 b n k)
      = Ideal.exp ((refArgs V0).sim n (pickAt ((refArgs V0).sim n) k.val)
        - Finset.univ.fold max ⊥ fun k : Fin 8 => (refArgs V0).sim n (pickAt ((refArgs V0).sim n) k.val)) := by
  have e := v20_apply V0 h
  pointwise [res_main_v27, e]
  rw [negInf, max_eq_right bot_le]
  refine congrArg (fun z => Ideal.exp (_ - z)) ((fold_row _ b n).trans ?_)
  exact congrArg (fun f => Finset.univ.fold max ⊥ f) (funext fun k => e b n k)

/-- The routed mixture. -/
theorem v44_apply (b : Fin 8) (l : Fin 1024) (n : Fin 512) :
    (res_main_v44 V0 : FVec Ideal S8x1024x512 .f32) (ix3 b l n) = (refArgs V0).ring b l n := by
  have e := v27_apply V0 h
  have ei := indices_apply V0 h
  pointwise [res_main_v44, e, ei]
  unfold Args.ring
  rw [sum_weight _ (Args.isFin_sim h n)]
  refine Finset.sum_congr (M := EReal) rfl fun k _ => ?_
  rw [gather_apply _ _ b n k l (pickAt ((refArgs V0).sim n) k.val), weight_pickAt _ (Args.isFin_sim h n)]
  · congr 1
    pointwise
    rfl
  · have ek := index_word (pickAt ((refArgs V0).sim n) k.val)
    pointwise [ei]
    exact ek

end Cert.Router
-- ==== Proof.RefBody.lean ====
/- The reference's center path, gate and projection, read at an entry. -/
module

public import proofs.«01_k».proof.Proof.RefRouter

@[expose] public section

set_option maxRecDepth 16384

noncomputable section

namespace Cert.Router

open Idealize.ShloMosaic Idealize.ShloMosaic.TcCoe Idealize.SL.Sem
open Cert.ReferenceIdeal Cert.ReferenceIdeal.Gen Cert.ReferenceIdeal.Value

variable (V0 : Valuation τ sig (Elt Ideal))

/-- A maximum over the time axis is one over its places. -/
theorem fold_time (s : FVec Ideal S8x1024x1 .f32) (b : Fin 8) :
    Finset.fold max (⊥ : EReal) s {i | reducesTo_S8x1024x1_S8x1_d1.drop i = ix2 b 0}
      = Finset.univ.fold max ⊥ fun l => s (ix3 b l 0) :=
  Shape.ReducesTo.fold_fiber_r3_a1 _ _ _ _ _

/-- The score of a time step. -/
theorem v49_apply (b : Fin 8) (l : Fin 1024) :
    (res_main_v49 V0 : FVec Ideal S8x1024x1 .f32) (ix3 b l 0) = (refArgs V0).score b l := by
  pointwise [res_main_v49]
  rfl

/-- Its exponential. -/
theorem v56_apply (b : Fin 8) (l : Fin 1024) :
    (res_main_v56 V0 : FVec Ideal S8x1024x1 .f32) (ix3 b l 0) = (refArgs V0).expo b l := by
  have e := v49_apply V0
  pointwise [res_main_v56, e]
  rw [negInf, max_eq_right bot_le]
  refine congrArg (fun z => Ideal.exp (_ - z)) ((fold_time _ b).trans ?_)
  exact congrArg (fun f => Finset.univ.fold max ⊥ f) (funext fun k => e b k)

/-- The first layer before its unit. -/
theorem v68_apply (b : Fin 8) (d : Fin 64) :
    (res_main_v68 V0 : FVec Ideal S8x64 .f32) (ix2 b d)
      = ∑ n, (refArgs V0).craw b n * (refArgs V0).wc1 d n + (refArgs V0).bc1 d := by
  have e := v56_apply V0
  pointwise [res_main_v68, e]
  rfl

/-- The second layer before its unit. -/
theorem v80_apply (b : Fin 8) (d : Fin 64) :
    (res_main_v80 V0 : FVec Ideal S8x64 .f32) (ix2 b d)
      = ∑ n, (refArgs V0).hid1 b n * (refArgs V0).wc2 d n + (refArgs V0).bc2 d := by
  have e := v68_apply V0
  pointwise [res_main_v80, e]
  rfl

/-- The center path's result. -/
theorem v94_apply (b : Fin 8) (l : Fin 1024) (n : Fin 512) :
    (res_main_v94 V0 : FVec Ideal S8x1024x512 .f32) (ix3 b l n) = (refArgs V0).cv b n := by
  have e := v80_apply V0
  pointwise [res_main_v94, e]
  rfl

variable (h : (refArgs V0).Finite)
include h

/-- The gate. -/
theorem v106_apply (b : Fin 8) (l : Fin 1024) (n : Fin 512) :
    (res_main_v106 V0 : FVec Ideal S8x1024x512 .f32) (ix3 b l n) = (refArgs V0).gate b l n := by
  have e := v94_apply V0
  have e' := v44_apply V0 h
  pointwise [res_main_v106, e, e']
  rfl

/-- The projection with the input added. -/
theorem v117_apply (b : Fin 8) (l : Fin 1024) (n : Fin 512) :
    (res_main_v117 V0 : FVec Ideal S8x1024x512 .f32) (ix3 b l n) = (refArgs V0).res b l n := by
  have e := v94_apply V0
  have e' := v44_apply V0 h
  have e'' := v106_apply V0 h
  pointwise [res_main_v117, e, e', e'']
  rfl

/-- The residual less its mean. -/
theorem v5_apply (b : Fin 8) (l : Fin 1024) (n : Fin 512) :
    (res_main_call1_v5 V0 : FVec Ideal S8x1024x512 .f32) (ix3 b l n) = (refArgs V0).dev b l n := by
  have e := v117_apply V0 h
  pointwise [res_main_call1_v5, e]
  rfl

omit h in
/-- The variance's divisor. -/
theorem v8_apply :
    (res_main_call1_v8 V0 : FVec Ideal S_ .f32) ix0 = Ideal.ofBits .f32 (0x44000000#32) := by
  pointwise [res_main_call1_v8]
  show Ideal.ofBits .f32 (0x44000000#32) - ((((0#32 : BitVec 32).toInt : ℝ)) : EReal) = _
  simp

end Cert.Router
-- ==== Proof.RefNorm.lean ====
/- The reference's result, read at an entry: its square root and division are the kernel's reciprocal root. -/
module

public import proofs.«01_k».proof.Proof.RefBody

@[expose] public section

set_option maxRecDepth 16384

noncomputable section

namespace Cert.Router

open Idealize.ShloMosaic Idealize.ShloMosaic.TcCoe Idealize.SL.Sem
open Cert.ReferenceIdeal Cert.ReferenceIdeal.Gen Cert.ReferenceIdeal.Value

/-- A square is not negative. -/
theorem mul_self_nonneg' (a : EReal) : 0 ≤ a * a := by
  induction a using EReal.rec with
  | bot => rw [EReal.bot_mul_bot]; exact le_top
  | top => rw [EReal.top_mul_top]; exact le_top
  | coe a => rw [← EReal.coe_mul]; exact_mod_cast mul_self_nonneg a

/-- The width as a real. -/
theorem width_eq : Ideal.ofBits .f32 (0x44000000#32) = ((512 : ℝ) : EReal) := by
  show Ideal.ieee 8 23 (0x44000000#32) = _
  unfold Ideal.ieee
  have e : (0x44000000#32).extractLsb' 31 1 = 0#1 := by decide
  norm_num [e, Nat.shiftRight_eq_div_pow]

/-- The width is positive. -/
theorem width_pos : (0 : EReal) < Ideal.ofBits .f32 (0x44000000#32) := by
  rw [width_eq]; exact_mod_cast (by norm_num : (0 : ℝ) < 512)

/-- What is added to the variance is positive. -/
theorem eps_pos : (0 : EReal) < Ideal.ofBits .f32 (0x3727C5AC#32) := by
  show 0 < Ideal.ieee 8 23 (0x3727C5AC#32)
  unfold Ideal.ieee
  have e : (0x3727C5AC#32).extractLsb' 31 1 = 0#1 := by decide
  norm_num [e, Nat.shiftRight_eq_div_pow]

/-- The variance with its addend is positive. -/
theorem Args.vareps_pos (A : Args) (b : Fin 8) (l : Fin 1024) : 0 < A.vareps b l := by
  refine lt_of_lt_of_le eps_pos (le_add_of_nonneg_left ?_)
  rw [width_eq, Ideal.div_coe (by norm_num)]
  refine mul_nonneg (Finset.sum_nonneg fun n _ => mul_self_nonneg' _) ?_
  exact_mod_cast (by norm_num : (0 : ℝ) ≤ 1 / 512)

/-- Dividing by the root of a positive number multiplies by its reciprocal root. -/
theorem div_sqrt (a : EReal) {v : EReal} (hv : 0 < v) : Ideal.div a (Ideal.sqrt v) = a * Ideal.rsqrt v := by
  induction v using EReal.rec with
  | bot => exact absurd hv (by simp)
  | top =>
    show Ideal.div a ⊤ = a * 0
    simp [Ideal.div]
  | coe r =>
    have hr : 0 < r := by exact_mod_cast hv
    have hs : Real.sqrt r ≠ 0 := (Real.sqrt_pos.2 hr).ne'
    have e1 : Ideal.sqrt ((r : ℝ) : EReal) = ((Real.sqrt r : ℝ) : EReal) := by
      show (if r < 0 then _ else _) = _
      rw [if_neg hr.le.not_gt]
    have e2 : Ideal.rsqrt ((r : ℝ) : EReal) = (((Real.sqrt r)⁻¹ : ℝ) : EReal) := by
      show (if r < 0 then _ else if r = 0 then _ else _) = _
      rw [if_neg hr.le.not_gt, if_neg hr.ne']
    rw [e1, e2, Ideal.div_coe hs, one_div]

/-- The term the reference ends holding. -/
def refResult (V0 : Valuation τ sig (Elt Ideal)) : FVec Ideal S8x1024x512 .f32 :=
  addf (mulf (Host.divf (subf (res_main_v117 V0) (broadcastInDim S8x1024x512 ![0, 1, 2] bcast_S8x1024x1_S8x1024x512_0_1_2 (Host.divf (broadcastInDim S8x1024x1 ![0, 1] bcast_S8x1024_S8x1024x1_0_1 (Host.reduceAdd (res_main_v117 V0) (constant S_ .f32 0x00000000#32) reducesTo_S8x1024x512_S8x1024_d2 h_S_)) (broadcastInDim S8x1024x1 ![] bcast_S_S8x1024x1 (constant S_ .f32 0x44000000#32))))) (broadcastInDim S8x1024x512 ![0, 1, 2] bcast_S8x1024x1_S8x1024x512_0_1_2 (Host.sqrt (addf (select (broadcastInDim S8x1024x1 ![] bcast_S_S8x1024x1 (cmpf .ogt (res_main_call1_v8 V0) (constant S_ .f32 0x00000000#32))) (Host.divf (broadcastInDim S8x1024x1 ![0, 1] bcast_S8x1024_S8x1024x1_0_1 (Host.reduceAdd (mulf (res_main_call1_v5 V0) (res_main_call1_v5 V0)) (constant S_ .f32 0x00000000#32) reducesTo_S8x1024x512_S8x1024_d2 h_S_)) (broadcastInDim S8x1024x1 ![] bcast_S_S8x1024x1 (res_main_call1_v8 V0))) (broadcastInDim S8x1024x1 ![] bcast_S_S8x1024x1 (id (constant S_ .f32 0x7FC00000#32)))) (broadcastInDim S8x1024x1 ![] bcast_S_S8x1024x1 (constant S_ .f32 0x3727C5AC#32)))))) (broadcastInDim S8x1024x512 ![0, 1, 2] bcast_S1x1x512_S8x1024x512_0_1_2 (broadcastInDim S1x1x512 ![2] bcast_S512_S1x1x512_2 (V0 (Proc.devRef .tc main_arg18))))) (broadcastInDim S8x1024x512 ![0, 1, 2] bcast_S1x1x512_S8x1024x512_0_1_2 (broadcastInDim S1x1x512 ![2] bcast_S512_S1x1x512_2 (V0 (Proc.devRef .tc main_arg19))))

/-- THE REFERENCE'S RESULT at an entry. -/
theorem refResult_apply (V0 : Valuation τ sig (Elt Ideal)) (h : (refArgs V0).Finite) (b : Fin 8) (l : Fin 1024) (n : Fin 512) :
    refResult V0 (ix3 b l n) = (refArgs V0).out b l n := by
  have e := v117_apply V0 h
  have e' := v5_apply V0 h
  have e'' := v8_apply V0
  pointwise [refResult, e, e', e'']
  rw [if_pos width_pos]
  exact congrArg (fun z => z * (refArgs V0).lnw n + (refArgs V0).lnb n) (div_sqrt _ ((refArgs V0).vareps_pos b l))

end Cert.Router
-- ==== Proof.Equation.lean ====
/- The equation: from arguments that agree, the kernel's result array and the reference's are one function. -/
module

public import proofs.«01_k».proof.Proof.KernelFold
public import proofs.«01_k».proof.Proof.RefNorm

@[expose] public section

set_option maxRecDepth 16384

noncomputable section

namespace Cert.Router

open Idealize.ShloMosaic Idealize.ShloMosaic.TcCoe Idealize.SL.Sem

/-- The two programs' argument arrays on one device agree. -/
def Agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
  ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
  ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
  ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
  ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
  ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
  ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
  ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
  ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
  ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
  ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
  ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
  ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD) (hag : Agree m m' c)
include hag

/-- Agreeing arrays have the same entries. -/
theorem refArgs_eq : refArgs (StableHlo.launchContents m' c) = argsOf m c := by
  obtain ⟨h0, h1, h2, h3, h4, h5, h6, h7, h8, h9, h10, h11, h12, h13, h14, h15, h16, h17, h18, h19⟩ := hag
  unfold refArgs argsOf
  rw [Args.mk.injEq]
  exact ⟨funext fun b => funext fun l => funext fun n => congrFun h0 (ix3 b l n),
    funext fun n => funext fun k => congrFun h1 (ix3 0 n k),
    funext fun n => funext fun k => congrFun h2 (ix2 n k),
    funext fun n => congrFun h3 (ix1 n),
    funext fun n => funext fun k => congrFun h4 (ix2 n k),
    funext fun n => congrFun h5 (ix1 n),
    funext fun n => congrFun h6 (ix2 0 n),
    congrFun h7 (ix1 0),
    funext fun n => funext fun k => congrFun h8 (ix2 n k),
    funext fun n => congrFun h9 (ix1 n),
    funext fun n => funext fun k => congrFun h10 (ix2 n k),
    funext fun n => congrFun h11 (ix1 n),
    funext fun n => funext fun k => congrFun h12 (ix2 n k),
    funext fun n => congrFun h13 (ix1 n),
    funext fun n => funext fun k => congrFun h14 (ix2 n k),
    funext fun n => congrFun h15 (ix1 n),
    funext fun n => funext fun k => congrFun h16 (ix2 n k),
    funext fun n => congrFun h17 (ix1 n),
    funext fun n => congrFun h18 (ix1 n),
    funext fun n => congrFun h19 (ix1 n)⟩

/-- THE EQUATION. -/
theorem result_eq (h : (argsOf m c).Finite) :
    refResult (StableHlo.launchContents m' c) = (Cert.KernelIdeal.Value.G21 m c : FVec Ideal Cert.KernelIdeal.S8x1024x512 .f32) := by
  have e := refArgs_eq m m' c hag
  funext i
  obtain ⟨b, l, n, rfl⟩ : ∃ (b : Fin 8) (l : Fin 1024) (n : Fin 512), i = ix3 b l n :=
    ⟨i 0, i 1, i 2, funext fun a => by match a with | ⟨0, _⟩ => rfl | ⟨1, _⟩ => rfl | ⟨2, _⟩ => rfl⟩
  refine (refResult_apply _ (e ▸ h) b l n).trans ?_
  rw [e]
  exact (G21_apply m c h b l n).symm

end Cert.Router
-- ==== Proof.PreFinite.lean ====
/- What the precondition says of the arguments: every entry it names is finite. -/
module

public import proofs.«01_k».proof.Defs
public import proofs.«01_k».proof.Proof.KernelArray
public import proofs.«01_k».proof.Proof.Gen.Pre_finite_inputs
public import Idealize.ShloMosaic.Lib.ReduceAll

@[expose] public section

set_option maxRecDepth 16384

noncomputable section

namespace Cert.Router

open Idealize.ShloMosaic Idealize.ShloMosaic.TcCoe Idealize.SL.Sem

/-- A number whose magnitude compares less than infinity is finite. -/
theorem isFin_of_olt (x : EReal)
    (h : FloatOps.cmpf (F := Ideal) .olt (φ := .f32) (FloatOps.absf (F := Ideal) (φ := .f32) x) (FloatOps.ofBits .f32 0x7F800000#32) = 1#1) :
    IsFin x := by
  have h2 : max x (-x) < Ideal.ieee 8 23 (0x7F800000#32) := by
    by_contra hn
    have h' : BitVec.ofBool (decide (max x (-x) < Ideal.ieee 8 23 (0x7F800000#32))) = 1#1 := h
    rw [decide_eq_false hn] at h'
    exact absurd h' (by decide)
  have e : Ideal.ieee 8 23 (0x7F800000#32) = ⊤ := by
    unfold Ideal.ieee
    simp
  rw [e] at h2
  constructor
  · rintro rfl
    simp at h2
  · rintro rfl
    simp at h2

/-- An array of which every entry compares less than infinity in magnitude holds finite numbers. -/
theorem isFin_of_reduce {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel) (j : Cert.Pre_finite_inputs.S_.Idx)
    (e : Host.reduce IntOp.andi (cmpf .olt (Host.absf x) (broadcastInDim s ![] hb (constant Cert.Pre_finite_inputs.S_ .f32 0x7F800000#32)))
      (constantI Cert.Pre_finite_inputs.S_ 1 1#1) hr hu j = 1#1) (i : s.Idx) : IsFin (x i) := by
  haveI : Subsingleton Cert.Pre_finite_inputs.S_.Idx := ⟨fun a b => funext fun k => k.elim0⟩
  exact isFin_of_olt _ (Host.reduce_andi_all _ _ hr hu j e i)

/-- A conjunction of two truth values at an index. -/
theorem andi_at {s : Shape} (x y : IVec s 1) (j : s.Idx) : andi x y j = 1#1 ↔ x j = 1#1 ∧ y j = 1#1 :=
  IntOp.andi_eq_one

open Cert.KernelIdeal in
/-- Under the precondition the arguments are finite. -/
theorem argsOf_finite (m : (ℓ : Loc nD τ sig) → Buf (Elt Ideal) ℓ) (hm : Cert.Pre_KernelIdeal_finite_inputs m) (c : Dev nD) :
    (argsOf m c).Finite := by
  have hm := congrFun (hm c) ix0
  unfold Cert.Pre_finite_inputs.fn Cert.Pre_finite_inputs.fn_part1 Cert.Pre_finite_inputs.fn_part2 Cert.Pre_finite_inputs.fn_part3
    Cert.Pre_finite_inputs.fn_part4 at hm
  dsimp only at hm
  obtain ⟨hm, h14⟩ := (andi_at _ _ _).1 hm
  obtain ⟨hm, h13⟩ := (andi_at _ _ _).1 hm
  obtain ⟨hm, h12⟩ := (andi_at _ _ _).1 hm
  obtain ⟨hm, h11⟩ := (andi_at _ _ _).1 hm
  obtain ⟨hm, h10⟩ := (andi_at _ _ _).1 hm
  obtain ⟨hm, h9⟩ := (andi_at _ _ _).1 hm
  obtain ⟨hm, h8⟩ := (andi_at _ _ _).1 hm
  obtain ⟨hm, h7⟩ := (andi_at _ _ _).1 hm
  obtain ⟨hm, h6⟩ := (andi_at _ _ _).1 hm
  obtain ⟨hm, h5⟩ := (andi_at _ _ _).1 hm
  obtain ⟨hm, h4⟩ := (andi_at _ _ _).1 hm
  obtain ⟨hm, h3⟩ := (andi_at _ _ _).1 hm
  obtain ⟨hm, h2⟩ := (andi_at _ _ _).1 hm
  obtain ⟨h0, h1⟩ := (andi_at _ _ _).1 hm
  exact {
    x := fun b l n => isFin_of_reduce _ _ _ _ _ h0 (ix3 b l n)
    ve := fun n k => isFin_of_reduce _ _ _ _ _ h1 (ix3 0 n k)
    wq := fun n k => isFin_of_reduce _ _ _ _ _ h2 (ix2 n k)
    bq := fun n => isFin_of_reduce _ _ _ _ _ h3 (ix1 n)
    wk := fun n k => isFin_of_reduce _ _ _ _ _ h4 (ix2 n k)
    bk := fun n => isFin_of_reduce _ _ _ _ _ h5 (ix1 n)
    ws := fun n => isFin_of_reduce _ _ _ _ _ h6 (ix2 0 n)
    bs := isFin_of_reduce _ _ _ _ _ h7 (ix1 0)
    wc1 := fun n k => isFin_of_reduce _ _ _ _ _ h8 (ix2 n k)
    bc1 := fun n => isFin_of_reduce _ _ _ _ _ h9 (ix1 n)
    wc2 := fun n k => isFin_of_reduce _ _ _ _ _ h10 (ix2 n k)
    bc2 := fun n => isFin_of_reduce _ _ _ _ _ h11 (ix1 n)
    wcn := fun n k => isFin_of_reduce _ _ _ _ _ h12 (ix2 n k)
    bcn := fun n => isFin_of_reduce _ _ _ _ _ h13 (ix1 n)
    wg := fun n k => isFin_of_reduce _ _ _ _ _ h14 (ix2 n k) }

end Cert.Router
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_inputs
public import proofs.«01_k».proof.Proof.Gen.KernelIdeal.Value
public import proofs.«01_k».proof.Proof.Gen.ReferenceIdeal.Run
public import proofs.«01_k».proof.Proof.Equation
public import proofs.«01_k».proof.Proof.PreFinite
public import Idealize.ShloMosaic.Lib.Quiescent
public import Idealize.ShloMosaic.Adequacy
public import Idealize.ShloMosaic.Init

@[expose] public section

noncomputable section

namespace Cert.Proof

open Idealize.ShloMosaic Idealize.SL.Sem

/-- The kernel as printed runs, its arguments unchanged and its semaphores at zero. -/
theorem kernel : Cert.quiescent_Kernel := fun m ρ _ => Cert.Kernel.Gen.frame m ρ

/-- So does the kernel at the ideal numbers. -/
theorem kernelIdeal : Cert.quiescent_KernelIdeal := fun m ρ _ => Cert.KernelIdeal.Gen.frame m ρ

/-- And under the precondition, which the run does not need. -/
theorem kernelIdeal_pre : Cert.quiescent_KernelIdeal_pre_finite_inputs := fun m ρ _ => kernelIdeal m ρ trivial

/-- The reference runs, its arguments unchanged and its semaphores at zero. -/
theorem referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- And under the precondition. -/
theorem referenceIdeal_pre : Cert.quiescent_ReferenceIdeal_pre_finite_inputs := fun m ρ _ => referenceIdeal m ρ trivial

/-- The mask constant's name stands for the printed word, read as minus infinity at the ideal numbers. -/
theorem preserves : Cert.preserves_Kernel_KernelIdeal :=
  IdealRules.named_const.statement Cert.KernelIdeal.κ "mask" .f32 0xFF61B1E6#32 ⊥ rfl

/-- From arguments that agree and are finite, the two programs end with one result. -/
theorem algebraic : Cert.algebraic_KernelIdeal_ReferenceIdeal_pre_finite_inputs := by
  intro m ρ m' ρ' hpre hagree
  refine ⟨_, Cert.KernelIdeal.Value.run (F := Ideal) m ρ, ?_⟩
  refine (θ_run Cert.ReferenceIdeal.defs _ _).mono (fun _ h c => ⟨(h c).1.trans ?_, (h c).2⟩)
    (Cert.ReferenceIdeal.Value.run (F := Ideal) m' ρ')
  exact Cert.Router.result_eq m m' c (hagree c) (Cert.Router.argsOf_finite m hpre c)

/-- Everything claimed. -/
theorem claim : Cert.Claim :=
  ⟨Cert.Kernel.Gen.facts, Cert.KernelIdeal.Gen.facts, Cert.ReferenceIdeal.Gen.facts, Cert.Pre_finite_inputs.Gen.facts,
    kernel, kernelIdeal, kernelIdeal_pre, referenceIdeal, referenceIdeal_pre, preserves, algebraic⟩

end Cert.Proof

end
